-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S8 : Shape := ⟨1, ![8]⟩
abbrev S_ : Shape := ⟨0, ![]⟩
abbrev S7 : Shape := ⟨1, ![7]⟩
abbrev S3 : Shape := ⟨1, ![3]⟩
abbrev S7x1 : Shape := ⟨2, ![7, 1]⟩
abbrev S8x2x128x4096 : Shape := ⟨4, ![8, 2, 128, 4096]⟩
abbrev S7x2 : Shape := ⟨2, ![7, 2]⟩
abbrev S1x1 : Shape := ⟨2, ![1, 1]⟩
abbrev S1x1x128x4096 : Shape := ⟨4, ![1, 1, 128, 4096]⟩
abbrev S128x4096 : Shape := ⟨2, ![128, 4096]⟩
abbrev S512x1024 : Shape := ⟨2, ![512, 1024]⟩
abbrev S1x2x128x4096 : Shape := ⟨4, ![1, 2, 128, 4096]⟩
abbrev S2x128x4096 : Shape := ⟨3, ![2, 128, 4096]⟩
abbrev S256x4096 : Shape := ⟨2, ![256, 4096]⟩
abbrev S256x1024 : Shape := ⟨2, ![256, 1024]⟩

abbrev nBuf : Space → Nat
  | .hbm => 147
  | .vmem => 6
  | .smem => 5
  | _ => 0

abbrev hbmTy0_0 (i : Nat) : BufTy := match i % 128 with
  | 0 => ⟨S512x4096, .i8⟩
  | 1 => ⟨S4096x1024, .i8⟩
  | 2 => ⟨S1, .f32⟩
  | 3 => ⟨S1, .f32⟩
  | 4 => ⟨S8, .i32⟩
  | 5 => ⟨S8, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S_, .i32⟩
  | 19 => ⟨S7, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i1⟩
  | 33 => ⟨S_, .i32⟩
  | 34 => ⟨S_, .i1⟩
  | 35 => ⟨S_, .i1⟩
  | 36 => ⟨S_, .i1⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i1⟩
  | 59 => ⟨S_, .i32⟩
  | 60 => ⟨S_, .i1⟩
  | 61 => ⟨S_, .i1⟩
  | 62 => ⟨S_, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S_, .i32⟩
  | 72 => ⟨S1, .i32⟩
  | 73 => ⟨S1, .i32⟩
  | 74 => ⟨S1, .i32⟩
  | 75 => ⟨S3, .i32⟩
  | 76 => ⟨S_, .i32⟩
  | 77 => ⟨S_, .i32⟩
  | 78 => ⟨S7, .i32⟩
  | 79 => ⟨S7, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S7, .i32⟩
  | 87 => ⟨S7, .i32⟩
  | 88 => ⟨S_, .i32⟩
  | 89 => ⟨S7, .i32⟩
  | 90 => ⟨S7, .i1⟩
  | 91 => ⟨S_, .i32⟩
  | 92 => ⟨S7, .i32⟩
  | 93 => ⟨S7, .i1⟩
  | 94 => ⟨S_, .i32⟩
  | 95 => ⟨S_, .i1⟩
  | 96 => ⟨S7, .i1⟩
  | 97 => ⟨S7, .i1⟩
  | 98 => ⟨S7, .i1⟩
  | 99 => ⟨S7, .i32⟩
  | 100 => ⟨S7, .i32⟩
  | 101 => ⟨S7, .i32⟩
  | 102 => ⟨S_, .i32⟩
  | 103 => ⟨S7, .i32⟩
  | 104 => ⟨S7, .i1⟩
  | 105 => ⟨S_, .i32⟩
  | 106 => ⟨S7, .i32⟩
  | 107 => ⟨S7, .i32⟩
  | 108 => ⟨S7, .i32⟩
  | 109 => ⟨S7x1, .i32⟩
  | 110 => ⟨S7, .i32⟩
  | 111 => ⟨S_, .i32⟩
  | 112 => ⟨S_, .i32⟩
  | 113 => ⟨S7, .i32⟩
  | 114 => ⟨S7, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S7, .i32⟩
  | 122 => ⟨S7, .i32⟩
  | 123 => ⟨S_, .i32⟩
  | 124 => ⟨S7, .i32⟩
  | 125 => ⟨S7, .i1⟩
  | 126 => ⟨S_, .i32⟩
  | 127 => ⟨S7, .i32⟩
  | _ => ⟨S512x4096, .i8⟩

abbrev hbmTy0_1 (i : Nat) : BufTy := match i % 128 with
  | 0 => ⟨S7, .i1⟩
  | 1 => ⟨S_, .i32⟩
  | 2 => ⟨S_, .i1⟩
  | 3 => ⟨S7, .i1⟩
  | 4 => ⟨S7, .i1⟩
  | 5 => ⟨S7, .i1⟩
  | 6 => ⟨S7, .i32⟩
  | 7 => ⟨S7, .i32⟩
  | 8 => ⟨S7, .i32⟩
  | 9 => ⟨S_, .i32⟩
  | 10 => ⟨S7, .i32⟩
  | 11 => ⟨S7, .i1⟩
  | 12 => ⟨S_, .i32⟩
  | 13 => ⟨S7, .i32⟩
  | 14 => ⟨S7, .i32⟩
  | 15 => ⟨S7, .i32⟩
  | 16 => ⟨S7x1, .i32⟩
  | 17 => ⟨S7, .i32⟩
  | 18 => ⟨S4096x1024, .f32⟩
  | _ => ⟨S512x4096, .i8⟩

abbrev hbmTy (i : Nat) : BufTy := match i / 128 with
  | 0 => hbmTy0_0 i
  | 1 => hbmTy0_1 i
  | _ => ⟨S512x4096, .i8⟩

abbrev bufTy : (tb : Table) → Fin (tcTables nBuf tb) → BufTy
  | .hbm, ⟨i, _⟩ => hbmTy i
  | .local _ .vmem, ⟨0, _⟩ => ⟨S512x4096, .i8⟩
  | .local _ .vmem, ⟨1, _⟩ => ⟨S4096x1024, .i8⟩
  | .local _ .vmem, ⟨2, _⟩ => ⟨S4096x1024, .f32⟩
  | .local _ .vmem, ⟨3, _⟩ => ⟨S8x2x128x4096, .i8⟩
  | .local _ .vmem, ⟨4, _⟩ => ⟨S8x2x128x4096, .i8⟩
  | .local _ .vmem, ⟨5, _⟩ => ⟨S4096x1024, .bf16⟩
  | .local _ .smem, ⟨0, _⟩ => ⟨S1, .f32⟩
  | .local _ .smem, ⟨1, _⟩ => ⟨S1, .f32⟩
  | .local _ .smem, ⟨2, _⟩ => ⟨S3, .i32⟩
  | .local _ .smem, ⟨3, _⟩ => ⟨S7, .i32⟩
  | .local _ .smem, ⟨4, _⟩ => ⟨S7, .i32⟩
  | _, _ => ⟨S512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_c_6 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_c_1 : Ref sig .tc := ⟨.hbm, 29, rfl⟩
abbrev main_call0_v4 : Ref sig .tc := ⟨.hbm, 30, rfl⟩
abbrev main_call0_c_2 : Ref sig .tc := ⟨.hbm, 31, rfl⟩
abbrev main_call0_v5 : Ref sig .tc := ⟨.hbm, 32, rfl⟩
abbrev main_call0_c_3 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_v12 : Ref sig .tc := ⟨.hbm, 38, rfl⟩
abbrev main_c_7 : Ref sig .tc := ⟨.hbm, 39, rfl⟩
abbrev main_v13 : Ref sig .tc := ⟨.hbm, 40, rfl⟩
abbrev main_c_8 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_9 : Ref sig .tc := ⟨.hbm, 46, rfl⟩
abbrev main_v18 : Ref sig .tc := ⟨.hbm, 47, rfl⟩
abbrev main_c_10 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_c_1 : Ref sig .tc := ⟨.hbm, 55, rfl⟩
abbrev main_call1_v4 : Ref sig .tc := ⟨.hbm, 56, rfl⟩
abbrev main_call1_c_2 : Ref sig .tc := ⟨.hbm, 57, rfl⟩
abbrev main_call1_v5 : Ref sig .tc := ⟨.hbm, 58, rfl⟩
abbrev main_call1_c_3 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_v19 : Ref sig .tc := ⟨.hbm, 64, rfl⟩
abbrev main_c_11 : Ref sig .tc := ⟨.hbm, 65, rfl⟩
abbrev main_v20 : Ref sig .tc := ⟨.hbm, 66, rfl⟩
abbrev main_c_12 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_c_13 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c_14 : Ref sig .tc := ⟨.hbm, 80, rfl⟩
abbrev main_call2_v0 : Ref sig .tc := ⟨.hbm, 81, rfl⟩
abbrev main_call2_c : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_1 : Ref sig .tc := ⟨.hbm, 88, rfl⟩
abbrev main_call2_v5 : Ref sig .tc := ⟨.hbm, 89, rfl⟩
abbrev main_call2_v6 : Ref sig .tc := ⟨.hbm, 90, rfl⟩
abbrev main_call2_c_2 : Ref sig .tc := ⟨.hbm, 91, rfl⟩
abbrev main_call2_v7 : Ref sig .tc := ⟨.hbm, 92, rfl⟩
abbrev main_call2_v8 : Ref sig .tc := ⟨.hbm, 93, rfl⟩
abbrev main_call2_c_3 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_v32 : Ref sig .tc := ⟨.hbm, 101, rfl⟩
abbrev main_c_15 : Ref sig .tc := ⟨.hbm, 102, rfl⟩
abbrev main_v33 : Ref sig .tc := ⟨.hbm, 103, rfl⟩
abbrev main_v34 : Ref sig .tc := ⟨.hbm, 104, rfl⟩
abbrev main_c_16 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_c_17 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_c_18 : Ref sig .tc := ⟨.hbm, 115, rfl⟩
abbrev main_call3_v0 : Ref sig .tc := ⟨.hbm, 116, rfl⟩
abbrev main_call3_c : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_c_1 : Ref sig .tc := ⟨.hbm, 123, rfl⟩
abbrev main_call3_v5 : Ref sig .tc := ⟨.hbm, 124, rfl⟩
abbrev main_call3_v6 : Ref sig .tc := ⟨.hbm, 125, rfl⟩
abbrev main_call3_c_2 : Ref sig .tc := ⟨.hbm, 126, rfl⟩
abbrev main_call3_v7 : Ref sig .tc := ⟨.hbm, 127, rfl⟩
abbrev main_call3_v8 : Ref sig .tc := ⟨.hbm, 128, rfl⟩
abbrev main_call3_c_3 : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_v43 : Ref sig .tc := ⟨.hbm, 136, rfl⟩
abbrev main_c_19 : Ref sig .tc := ⟨.hbm, 137, rfl⟩
abbrev main_v44 : Ref sig .tc := ⟨.hbm, 138, rfl⟩
abbrev main_v45 : Ref sig .tc := ⟨.hbm, 139, rfl⟩
abbrev main_c_20 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg7_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v3 : BitVec 32 := Scalar.muli v1 c1_i32_0
  let v4 : BitVec 32 := Scalar.addi c0_i32 v3
  v4.toNat

def k0_dev2 (v0 : BitVec 32) : Nat :=
  let c0_i32_3 : BitVec 32 := 0#32
  let c1_i32_2 : BitVec 32 := 1#32
  let v5 : BitVec 32 := Scalar.muli v0 c1_i32_2
  let v6 : BitVec 32 := Scalar.addi c0_i32_3 v5
  v6.toNat

def k0_dev3 (v0 : BitVec 32) : Nat :=
  let c0_i32_11 : BitVec 32 := 0#32
  let c1_i32_10 : BitVec 32 := 1#32
  let v7 : BitVec 32 := Scalar.muli v0 c1_i32_10
  let v8 : BitVec 32 := Scalar.addi c0_i32_11 v7
  v8.toNat
def k0_dev4 (v1 : BitVec 32) : Nat :=
  let c0_i32_23 : BitVec 32 := 0#32
  let c1_i32_22 : BitVec 32 := 1#32
  let v16 : BitVec 32 := Scalar.muli v1 c1_i32_22
  let v17 : BitVec 32 := Scalar.addi c0_i32_23 v16
  v17.toNat
def k0_dev5 (v0 : BitVec 32) : Nat :=
  let c0_i32_34 : BitVec 32 := 0#32
  let c1_i32_33 : BitVec 32 := 1#32
  let v25 : BitVec 32 := Scalar.muli v0 c1_i32_33
  let v26 : BitVec 32 := Scalar.addi c0_i32_34 v25
  v26.toNat
def k0_dev6 (v1 : BitVec 32) : Nat :=
  let c0_i32_45 : BitVec 32 := 0#32
  let c1_i32_44 : BitVec 32 := 1#32
  let v34 : BitVec 32 := Scalar.muli v1 c1_i32_44
  let v35 : BitVec 32 := Scalar.addi c0_i32_45 v34
  v35.toNat
def k0_off1 (v52 : BitVec 32) : Fin 2 → Nat :=
  let c512_i32 : BitVec 32 := 512#32
  let v53 : BitVec 32 := Scalar.muli v52 c512_i32
  let v63 : Index := Scalar.indexCast v53
  let c0_59 : Index := 0#32
  ![v63.toNat, 0]

def k0_chk3 (v52 : BitVec 32) : Prop :=
  (∀ a, (k0_off1 v52) a + S512x1024.size a ≤ S4096x1024.size a)
theorem k0_off1_inb : ∀ (v52 : BitVec 32) (k0_hw3 : k0_chk3 v52), ∀ a, (k0_off1 v52) a + S512x1024.size a ≤ S4096x1024.size a := fun v52 k0_hw3 => k0_hw3

def k0_dev7 (v0 : BitVec 32) : Nat :=
  let c0_i32_81 : BitVec 32 := 0#32
  let c1_i32_80 : BitVec 32 := 1#32
  let v72 : BitVec 32 := Scalar.muli v0 c1_i32_80
  let v73 : BitVec 32 := Scalar.addi c0_i32_81 v72
  v73.toNat
def k0_dev8 (v1 : BitVec 32) : Nat :=
  let c0_i32_107 : BitVec 32 := 0#32
  let c1_i32_106 : BitVec 32 := 1#32
  let v89 : BitVec 32 := Scalar.muli v1 c1_i32_106
  let v90 : BitVec 32 := Scalar.addi c0_i32_107 v89
  v90.toNat
def k0_dev9 (v0 : BitVec 32) : Nat :=
  let c0_i32_133 : BitVec 32 := 0#32
  let c1_i32_132 : BitVec 32 := 1#32
  let v106 : BitVec 32 := Scalar.muli v0 c1_i32_132
  let v107 : BitVec 32 := Scalar.addi c0_i32_133 v106
  v107.toNat
def k0_dev10 (v1 : BitVec 32) : Nat :=
  let c0_i32_159 : BitVec 32 := 0#32
  let c1_i32_158 : BitVec 32 := 1#32
  let v123 : BitVec 32 := Scalar.muli v1 c1_i32_158
  let v124 : BitVec 32 := Scalar.addi c0_i32_159 v123
  v124.toNat
def k0_off2 (v133 : BitVec 32) : Fin 2 → Nat :=
  let c512_i32_165 : BitVec 32 := 512#32
  let v134 : BitVec 32 := Scalar.muli v133 c512_i32_165
  let v145 : Index := Scalar.indexCast v134
  let c0_173 : Index := 0#32
  ![v145.toNat, 0]

def k0_chk4 (v133 : BitVec 32) : Prop :=
  (∀ a, (k0_off2 v133) a + S256x1024.size a ≤ S4096x1024.size a)
theorem k0_off2_inb : ∀ (v133 : BitVec 32) (k0_hw4 : k0_chk4 v133), ∀ a, (k0_off2 v133) a + S256x1024.size a ≤ S4096x1024.size a := fun v133 k0_hw4 => k0_hw4

def k0_off3 (v147 : BitVec 32) : Fin 2 → Nat :=
  let c512_i32_175 : BitVec 32 := 512#32
  let v148 : BitVec 32 := Scalar.muli v147 c512_i32_175
  let c256_i32_176 : BitVec 32 := 256#32
  let v149 : BitVec 32 := Scalar.addi v148 c256_i32_176
  let v160 : Index := Scalar.indexCast v149
  let c0_184 : Index := 0#32
  ![v160.toNat, 0]

def k0_chk5 (v147 : BitVec 32) : Prop :=
  (∀ a, (k0_off3 v147) a + S256x1024.size a ≤ S4096x1024.size a)
theorem k0_off3_inb : ∀ (v147 : BitVec 32) (k0_hw5 : k0_chk5 v147), ∀ a, (k0_off3 v147) a + S256x1024.size a ≤ S4096x1024.size a := fun v147 k0_hw5 => k0_hw5

def k0_dev11 (v0 : BitVec 32) : Nat :=
  let c0_i32_207 : BitVec 32 := 0#32
  let c1_i32_206 : BitVec 32 := 1#32
  let v170 : BitVec 32 := Scalar.muli v0 c1_i32_206
  let v171 : BitVec 32 := Scalar.addi c0_i32_207 v170
  v171.toNat
def k0_dev12 (v1 : BitVec 32) : Nat :=
  let c0_i32_235 : BitVec 32 := 0#32
  let c1_i32_234 : BitVec 32 := 1#32
  let v188 : BitVec 32 := Scalar.muli v1 c1_i32_234
  let v189 : BitVec 32 := Scalar.addi c0_i32_235 v188
  v189.toNat
def k0_dev13 (v0 : BitVec 32) : Nat :=
  let c0_i32_263 : BitVec 32 := 0#32
  let c1_i32_262 : BitVec 32 := 1#32
  let v206 : BitVec 32 := Scalar.muli v0 c1_i32_262
  let v207 : BitVec 32 := Scalar.addi c0_i32_263 v206
  v207.toNat
def k0_dev14 (v1 : BitVec 32) : Nat :=
  let c0_i32_291 : BitVec 32 := 0#32
  let c1_i32_290 : BitVec 32 := 1#32
  let v224 : BitVec 32 := Scalar.muli v1 c1_i32_290
  let v225 : BitVec 32 := Scalar.addi c0_i32_291 v224
  v225.toNat
def k0_off4 (v234 : BitVec 32) : Fin 2 → Nat :=
  let c512_i32_297 : BitVec 32 := 512#32
  let v235 : BitVec 32 := Scalar.muli v234 c512_i32_297
  let v246 : Index := Scalar.indexCast v235
  let c0_305 : Index := 0#32
  ![v246.toNat, 0]

def k0_chk6 (v234 : BitVec 32) : Prop :=
  (∀ a, (k0_off4 v234) a + S256x1024.size a ≤ S4096x1024.size a)
theorem k0_off4_inb : ∀ (v234 : BitVec 32) (k0_hw6 : k0_chk6 v234), ∀ a, (k0_off4 v234) a + S256x1024.size a ≤ S4096x1024.size a := fun v234 k0_hw6 => k0_hw6

def k0_off5 (v248 : BitVec 32) : Fin 2 → Nat :=
  let c512_i32_307 : BitVec 32 := 512#32
  let v249 : BitVec 32 := Scalar.muli v248 c512_i32_307
  let c256_i32_308 : BitVec 32 := 256#32
  let v250 : BitVec 32 := Scalar.addi v249 c256_i32_308
  let v261 : Index := Scalar.indexCast v250
  let c0_316 : Index := 0#32
  ![v261.toNat, 0]

def k0_chk7 (v248 : BitVec 32) : Prop :=
  (∀ a, (k0_off5 v248) a + S256x1024.size a ≤ S4096x1024.size a)
theorem k0_off5_inb : ∀ (v248 : BitVec 32) (k0_hw7 : k0_chk7 v248), ∀ a, (k0_off5 v248) a + S256x1024.size a ≤ S4096x1024.size a := fun v248 k0_hw7 => k0_hw7

def k0_dev15 (v0 : BitVec 32) : Nat :=
  let c0_i32_339 : BitVec 32 := 0#32
  let c1_i32_338 : BitVec 32 := 1#32
  let v271 : BitVec 32 := Scalar.muli v0 c1_i32_338
  let v272 : BitVec 32 := Scalar.addi c0_i32_339 v271
  v272.toNat
def k0_dev16 (v1 : BitVec 32) : Nat :=
  let c0_i32_367 : BitVec 32 := 0#32
  let c1_i32_366 : BitVec 32 := 1#32
  let v289 : BitVec 32 := Scalar.muli v1 c1_i32_366
  let v290 : BitVec 32 := Scalar.addi c0_i32_367 v289
  v290.toNat
def k0_dev17 (v0 : BitVec 32) : Nat :=
  let c0_i32_395 : BitVec 32 := 0#32
  let c1_i32_394 : BitVec 32 := 1#32
  let v307 : BitVec 32 := Scalar.muli v0 c1_i32_394
  let v308 : BitVec 32 := Scalar.addi c0_i32_395 v307
  v308.toNat
def k0_dev18 (v1 : BitVec 32) : Nat :=
  let c0_i32_423 : BitVec 32 := 0#32
  let c1_i32_422 : BitVec 32 := 1#32
  let v325 : BitVec 32 := Scalar.muli v1 c1_i32_422
  let v326 : BitVec 32 := Scalar.addi c0_i32_423 v325
  v326.toNat
def k0_off6 (v335 : BitVec 32) : Fin 2 → Nat :=
  let c512_i32_429 : BitVec 32 := 512#32
  let v336 : BitVec 32 := Scalar.muli v335 c512_i32_429
  let v347 : Index := Scalar.indexCast v336
  let c0_436 : Index := 0#32
  ![v347.toNat, 0]

def k0_chk8 (v335 : BitVec 32) : Prop :=
  (∀ a, (k0_off6 v335) a + S256x1024.size a ≤ S4096x1024.size a)
theorem k0_off6_inb : ∀ (v335 : BitVec 32) (k0_hw8 : k0_chk8 v335), ∀ a, (k0_off6 v335) a + S256x1024.size a ≤ S4096x1024.size a := fun v335 k0_hw8 => k0_hw8

def k0_off7 (v349 : BitVec 32) : Fin 2 → Nat :=
  let c512_i32_438 : BitVec 32 := 512#32
  let v350 : BitVec 32 := Scalar.muli v349 c512_i32_438
  let c256_i32_439 : BitVec 32 := 256#32
  let v351 : BitVec 32 := Scalar.addi v350 c256_i32_439
  let v362 : Index := Scalar.indexCast v351
  let c0_447 : Index := 0#32
  ![v362.toNat, 0]

def k0_chk9 (v349 : BitVec 32) : Prop :=
  (∀ a, (k0_off7 v349) a + S256x1024.size a ≤ S4096x1024.size a)
theorem k0_off7_inb : ∀ (v349 : BitVec 32) (k0_hw9 : k0_chk9 v349), ∀ a, (k0_off7 v349) a + S256x1024.size a ≤ S4096x1024.size a := fun v349 k0_hw9 => k0_hw9

def k0_dev19 (v0 : BitVec 32) : Nat :=
  let c0_i32_470 : BitVec 32 := 0#32
  let c1_i32_469 : BitVec 32 := 1#32
  let v372 : BitVec 32 := Scalar.muli v0 c1_i32_469
  let v373 : BitVec 32 := Scalar.addi c0_i32_470 v372
  v373.toNat
def k0_dev20 (v1 : BitVec 32) : Nat :=
  let c0_i32_498 : BitVec 32 := 0#32
  let c1_i32_497 : BitVec 32 := 1#32
  let v390 : BitVec 32 := Scalar.muli v1 c1_i32_497
  let v391 : BitVec 32 := Scalar.addi c0_i32_498 v390
  v391.toNat
def k0_dev21 (v0 : BitVec 32) : Nat :=
  let c0_i32_526 : BitVec 32 := 0#32
  let c1_i32_525 : BitVec 32 := 1#32
  let v408 : BitVec 32 := Scalar.muli v0 c1_i32_525
  let v409 : BitVec 32 := Scalar.addi c0_i32_526 v408
  v409.toNat
def k0_dev22 (v1 : BitVec 32) : Nat :=
  let c0_i32_554 : BitVec 32 := 0#32
  let c1_i32_553 : BitVec 32 := 1#32
  let v426 : BitVec 32 := Scalar.muli v1 c1_i32_553
  let v427 : BitVec 32 := Scalar.addi c0_i32_554 v426
  v427.toNat
def k0_off8 (v436 : BitVec 32) : Fin 2 → Nat :=
  let c512_i32_560 : BitVec 32 := 512#32
  let v437 : BitVec 32 := Scalar.muli v436 c512_i32_560
  let v448 : Index := Scalar.indexCast v437
  let c0_567 : Index := 0#32
  ![v448.toNat, 0]

def k0_chk10 (v436 : BitVec 32) : Prop :=
  (∀ a, (k0_off8 v436) a + S256x1024.size a ≤ S4096x1024.size a)
theorem k0_off8_inb : ∀ (v436 : BitVec 32) (k0_hw10 : k0_chk10 v436), ∀ a, (k0_off8 v436) a + S256x1024.size a ≤ S4096x1024.size a := fun v436 k0_hw10 => k0_hw10

def k0_off9 (v450 : BitVec 32) : Fin 2 → Nat :=
  let c512_i32_569 : BitVec 32 := 512#32
  let v451 : BitVec 32 := Scalar.muli v450 c512_i32_569
  let c256_i32_570 : BitVec 32 := 256#32
  let v452 : BitVec 32 := Scalar.addi v451 c256_i32_570
  let v463 : Index := Scalar.indexCast v452
  let c0_578 : Index := 0#32
  ![v463.toNat, 0]

def k0_chk11 (v450 : BitVec 32) : Prop :=
  (∀ a, (k0_off9 v450) a + S256x1024.size a ≤ S4096x1024.size a)
theorem k0_off9_inb : ∀ (v450 : BitVec 32) (k0_hw11 : k0_chk11 v450), ∀ a, (k0_off9 v450) a + S256x1024.size a ≤ S4096x1024.size a := fun v450 k0_hw11 => k0_hw11

def k0_dev23 (v0 : BitVec 32) : Nat :=
  let c0_i32_601 : BitVec 32 := 0#32
  let c1_i32_600 : BitVec 32 := 1#32
  let v473 : BitVec 32 := Scalar.muli v0 c1_i32_600
  let v474 : BitVec 32 := Scalar.addi c0_i32_601 v473
  v474.toNat
def k0_dev24 (v1 : BitVec 32) : Nat :=
  let c0_i32_629 : BitVec 32 := 0#32
  let c1_i32_628 : BitVec 32 := 1#32
  let v491 : BitVec 32 := Scalar.muli v1 c1_i32_628
  let v492 : BitVec 32 := Scalar.addi c0_i32_629 v491
  v492.toNat
def k0_dev25 (v0 : BitVec 32) : Nat :=
  let c0_i32_657 : BitVec 32 := 0#32
  let c1_i32_656 : BitVec 32 := 1#32
  let v509 : BitVec 32 := Scalar.muli v0 c1_i32_656
  let v510 : BitVec 32 := Scalar.addi c0_i32_657 v509
  v510.toNat
def k0_dev26 (v1 : BitVec 32) : Nat :=
  let c0_i32_685 : BitVec 32 := 0#32
  let c1_i32_684 : BitVec 32 := 1#32
  let v527 : BitVec 32 := Scalar.muli v1 c1_i32_684
  let v528 : BitVec 32 := Scalar.addi c0_i32_685 v527
  v528.toNat
def k0_off10 (v537 : BitVec 32) : Fin 2 → Nat :=
  let c512_i32_691 : BitVec 32 := 512#32
  let v538 : BitVec 32 := Scalar.muli v537 c512_i32_691
  let v549 : Index := Scalar.indexCast v538
  let c0_698 : Index := 0#32
  ![v549.toNat, 0]

def k0_chk12 (v537 : BitVec 32) : Prop :=
  (∀ a, (k0_off10 v537) a + S256x1024.size a ≤ S4096x1024.size a)
theorem k0_off10_inb : ∀ (v537 : BitVec 32) (k0_hw12 : k0_chk12 v537), ∀ a, (k0_off10 v537) a + S256x1024.size a ≤ S4096x1024.size a := fun v537 k0_hw12 => k0_hw12

def k0_off11 (v551 : BitVec 32) : Fin 2 → Nat :=
  let c512_i32_700 : BitVec 32 := 512#32
  let v552 : BitVec 32 := Scalar.muli v551 c512_i32_700
  let c256_i32_701 : BitVec 32 := 256#32
  let v553 : BitVec 32 := Scalar.addi v552 c256_i32_701
  let v564 : Index := Scalar.indexCast v553
  let c0_709 : Index := 0#32
  ![v564.toNat, 0]

def k0_chk13 (v551 : BitVec 32) : Prop :=
  (∀ a, (k0_off11 v551) a + S256x1024.size a ≤ S4096x1024.size a)
theorem k0_off11_inb : ∀ (v551 : BitVec 32) (k0_hw13 : k0_chk13 v551), ∀ a, (k0_off11 v551) a + S256x1024.size a ≤ S4096x1024.size a := fun v551 k0_hw13 => k0_hw13

def k0_dev27 (v0 : BitVec 32) : Nat :=
  let c0_i32_732 : BitVec 32 := 0#32
  let c1_i32_731 : BitVec 32 := 1#32
  let v574 : BitVec 32 := Scalar.muli v0 c1_i32_731
  let v575 : BitVec 32 := Scalar.addi c0_i32_732 v574
  v575.toNat
def k0_dev28 (v1 : BitVec 32) : Nat :=
  let c0_i32_760 : BitVec 32 := 0#32
  let c1_i32_759 : BitVec 32 := 1#32
  let v592 : BitVec 32 := Scalar.muli v1 c1_i32_759
  let v593 : BitVec 32 := Scalar.addi c0_i32_760 v592
  v593.toNat
def k0_dev29 (v0 : BitVec 32) : Nat :=
  let c0_i32_788 : BitVec 32 := 0#32
  let c1_i32_787 : BitVec 32 := 1#32
  let v610 : BitVec 32 := Scalar.muli v0 c1_i32_787
  let v611 : BitVec 32 := Scalar.addi c0_i32_788 v610
  v611.toNat

def k0_chk2 (v0 : BitVec 32) : Prop :=
  ((k0_dev2 v0) < nD) ∧
  ((k0_dev3 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0), (k0_dev3 v0) < nD := fun v0 k0_hw2 => k0_hw2.2.1
theorem k0_dev5_lt : ∀ (v0 : BitVec 32) (k0_hw2 : k0_chk2 v0), (k0_dev5 v0) < nD := fun v0 k0_hw2 => k0_hw2.2.2.1
theorem k0_dev7_lt : ∀ (v0 : BitVec 32) (k0_hw2 : k0_chk2 v0), (k0_dev7 v0) < nD := fun v0 k0_hw2 => k0_hw2.2.2.2.1
theorem k0_dev9_lt : ∀ (v0 : BitVec 32) (k0_hw2 : k0_chk2 v0), (k0_dev9 v0) < nD := fun v0 k0_hw2 => k0_hw2.2.2.2.2.1
theorem k0_dev11_lt : ∀ (v0 : BitVec 32) (k0_hw2 : k0_chk2 v0), (k0_dev11 v0) < nD := fun v0 k0_hw2 => k0_hw2.2.2.2.2.2.1
theorem k0_dev13_lt : ∀ (v0 : BitVec 32) (k0_hw2 : k0_chk2 v0), (k0_dev13 v0) < nD := fun v0 k0_hw2 => k0_hw2.2.2.2.2.2.2.1
theorem k0_dev15_lt : ∀ (v0 : BitVec 32) (k0_hw2 : k0_chk2 v0), (k0_dev15 v0) < nD := fun v0 k0_hw2 => k0_hw2.2.2.2.2.2.2.2.1
theorem k0_dev17_lt : ∀ (v0 : BitVec 32) (k0_hw2 : k0_chk2 v0), (k0_dev17 v0) < nD := fun v0 k0_hw2 => k0_hw2.2.2.2.2.2.2.2.2.1
theorem k0_dev19_lt : ∀ (v0 : BitVec 32) (k0_hw2 : k0_chk2 v0), (k0_dev19 v0) < nD := fun v0 k0_hw2 => k0_hw2.2.2.2.2.2.2.2.2.2.1
theorem k0_dev21_lt : ∀ (v0 : BitVec 32) (k0_hw2 : k0_chk2 v0), (k0_dev21 v0) < nD := fun v0 k0_hw2 => k0_hw2.2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.2.1
theorem k0_dev25_lt : ∀ (v0 : BitVec 32) (k0_hw2 : k0_chk2 v0), (k0_dev25 v0) < nD := fun v0 k0_hw2 => k0_hw2.2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.2.1
theorem k0_dev29_lt : ∀ (v0 : BitVec 32) (k0_hw2 : k0_chk2 v0), (k0_dev29 v0) < nD := fun v0 k0_hw2 => k0_hw2.2.2.2.2.2.2.2.2.2.2.2.2.2.2

def k0_dev30 (v1 : BitVec 32) : Nat :=
  let c0_i32_816 : BitVec 32 := 0#32
  let c1_i32_815 : BitVec 32 := 1#32
  let v628 : BitVec 32 := Scalar.muli v1 c1_i32_815
  let v629 : BitVec 32 := Scalar.addi c0_i32_816 v628
  v629.toNat

def k0_chk1 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD)
theorem k0_dev1_lt : ∀ (v1 : BitVec 32) (k0_hw1 : k0_chk1 v1), (k0_dev1 v1) < nD := fun v1 k0_hw1 => k0_hw1.1
theorem k0_dev4_lt : ∀ (v1 : BitVec 32) (k0_hw1 : k0_chk1 v1), (k0_dev4 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev8_lt : ∀ (v1 : BitVec 32) (k0_hw1 : k0_chk1 v1), (k0_dev8 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev12_lt : ∀ (v1 : BitVec 32) (k0_hw1 : k0_chk1 v1), (k0_dev12 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev16_lt : ∀ (v1 : BitVec 32) (k0_hw1 : k0_chk1 v1), (k0_dev16 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev20_lt : ∀ (v1 : BitVec 32) (k0_hw1 : k0_chk1 v1), (k0_dev20 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev24_lt : ∀ (v1 : BitVec 32) (k0_hw1 : k0_chk1 v1), (k0_dev24 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2

def k0_off12 (v638 : BitVec 32) : Fin 2 → Nat :=
  let c512_i32_822 : BitVec 32 := 512#32
  let v639 : BitVec 32 := Scalar.muli v638 c512_i32_822
  let v650 : Index := Scalar.indexCast v639
  let c0_829 : Index := 0#32
  ![v650.toNat, 0]

def k0_chk14 (v638 : BitVec 32) : Prop :=
  (∀ a, (k0_off12 v638) a + S256x1024.size a ≤ S4096x1024.size a)
theorem k0_off12_inb : ∀ (v638 : BitVec 32) (k0_hw14 : k0_chk14 v638), ∀ a, (k0_off12 v638) a + S256x1024.size a ≤ S4096x1024.size a := fun v638 k0_hw14 => k0_hw14

def k0_off13 (v652 : BitVec 32) : Fin 2 → Nat :=
  let c512_i32_831 : BitVec 32 := 512#32
  let v653 : BitVec 32 := Scalar.muli v652 c512_i32_831
  let c256_i32_832 : BitVec 32 := 256#32
  let v654 : BitVec 32 := Scalar.addi v653 c256_i32_832
  let v665 : Index := Scalar.indexCast v654
  let c0_840 : Index := 0#32
  ![v665.toNat, 0]

def k0_chk15 (v652 : BitVec 32) : Prop :=
  (∀ a, (k0_off13 v652) a + S256x1024.size a ≤ S4096x1024.size a)
theorem k0_off13_inb : ∀ (v652 : BitVec 32) (k0_hw15 : k0_chk15 v652), ∀ a, (k0_off13 v652) a + S256x1024.size a ≤ S4096x1024.size a := fun v652 k0_hw15 => k0_hw15

def k0_off14 (v699 : BitVec 32) : Fin 2 → Nat :=
  let c512_i32_898 : BitVec 32 := 512#32
  let v700 : BitVec 32 := Scalar.muli v699 c512_i32_898
  let v711 : Index := Scalar.indexCast v700
  let c0_905 : Index := 0#32
  ![v711.toNat, 0]

def k0_chk16 (v699 : BitVec 32) : Prop :=
  (∀ a, (k0_off14 v699) a + S256x1024.size a ≤ S4096x1024.size a)
theorem k0_off14_inb : ∀ (v699 : BitVec 32) (k0_hw16 : k0_chk16 v699), ∀ a, (k0_off14 v699) a + S256x1024.size a ≤ S4096x1024.size a := fun v699 k0_hw16 => k0_hw16

def k0_off15 (v713 : BitVec 32) : Fin 2 → Nat :=
  let c512_i32_907 : BitVec 32 := 512#32
  let v714 : BitVec 32 := Scalar.muli v713 c512_i32_907
  let c256_i32_908 : BitVec 32 := 256#32
  let v715 : BitVec 32 := Scalar.addi v714 c256_i32_908
  let v726 : Index := Scalar.indexCast v715
  let c0_916 : Index := 0#32
  ![v726.toNat, 0]

def k0_chk17 (v713 : BitVec 32) : Prop :=
  (∀ a, (k0_off15 v713) a + S256x1024.size a ≤ S4096x1024.size a)
theorem k0_off15_inb : ∀ (v713 : BitVec 32) (k0_hw17 : k0_chk17 v713), ∀ a, (k0_off15 v713) a + S256x1024.size a ≤ S4096x1024.size a := fun v713 k0_hw17 => k0_hw17

abbrev stage0_0 : Fin 1 → Memref sig .tc .vmem S512x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S3 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S7 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S7 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Steps.lean ====
/- The kernel's body as a short program over its steps: what one device does before the ring, one step of
   the ring in each direction, one block of the product, and the waits that drain the sends. Every step is
   the same program at another index; the printed body is their sequence (`body_eq`). -/
module

public import proofs.«01_k».proof.Proof.Gen.KernelIdeal.Skeleton

@[expose] public section

set_option synthInstance.maxSize 4096

noncomputable section

namespace Cert.KernelIdeal.Run

open Idealize.ShloMosaic Idealize.SL.Sem
open Cert.KernelIdeal Cert.KernelIdeal.Gen

variable {F : FTy → Type} [FloatOps F]

/-- The kernel's programs. -/
abbrev KProg (α : Type) := Prog (TpuEff nD τ sig (Elt F) Λ₀ .tc) α

/-! ## The windows and the semaphores, by step and part -/

theorem inb_slot (t j : ℕ) (ht : t < 8) (hj : j < 2) :
    ∀ a, (![t, j, 0, 0] : Fin 4 → ℕ) a + S1x1x128x4096.size a ≤ S8x2x128x4096.size a := by
  intro a; fin_cases a
  · show t + 1 ≤ 8; omega
  · show j + 1 ≤ 2; omega
  · show 0 + 128 ≤ 128; omega
  · show 0 + 4096 ≤ 4096; omega

theorem inb_pair (t : ℕ) (ht : t < 8) :
    ∀ a, (![t, 0, 0, 0] : Fin 4 → ℕ) a + S1x2x128x4096.size a ≤ S8x2x128x4096.size a := by
  intro a; fin_cases a
  · show t + 1 ≤ 8; omega
  · show 0 + 2 ≤ 2; omega
  · show 0 + 128 ≤ 128; omega
  · show 0 + 4096 ≤ 4096; omega

theorem inb_rows (k : ℕ) (hk : k < 4) :
    ∀ a, (![128 * k, 0] : Fin 2 → ℕ) a + S128x4096.size a ≤ S512x4096.size a := by
  intro a; fin_cases a
  · show 128 * k + 128 ≤ 512; omega
  · show 0 + 4096 ≤ 4096; omega

theorem inb_sem (s j : ℕ) (hs : s < 7) (hj : j < 2) :
    ∀ a, (![s, j] : Fin 2 → ℕ) a + S1x1.size a ≤ S7x2.size a := by
  intro a; fin_cases a
  · show s + 1 ≤ 7; omega
  · show j + 1 ≤ 2; omega

theorem inb_word7 (s : ℕ) (hs : s < 7) : ∀ a, (![s] : Fin 1 → ℕ) a + S1.size a ≤ S7.size a := by
  intro a; fin_cases a
  show s + 1 ≤ 7; omega

/-- The rectangle of part `j` of slot `t` of a gather buffer. -/
abbrev slotR (t j : ℕ) (ht : t < 8) (hj : j < 2) : Rect S8x2x128x4096 :=
  Rect.unit (s := S8x2x128x4096) ![t, j, 0, 0] S1x1x128x4096.size (inb_slot t j ht hj)
/-- Both parts of slot `t`. -/
abbrev pairR (t : ℕ) (ht : t < 8) : Rect S8x2x128x4096 :=
  Rect.unit (s := S8x2x128x4096) ![t, 0, 0, 0] S1x2x128x4096.size (inb_pair t ht)
/-- The `k`-th quarter of the rows of the device's own shard. -/
abbrev rowsR (k : ℕ) (hk : k < 4) : Rect S512x4096 :=
  Rect.unit (s := S512x4096) ![128 * k, 0] S128x4096.size (inb_rows k hk)

/-- Part `j` of slot `t` as the copies name it. -/
abbrev slotM (M : Memref sig .tc .vmem S8x2x128x4096 .i8) (t j : ℕ) (ht : t < 8) (hj : j < 2) :
    Memref sig .tc .vmem S128x4096 .i8 :=
  (M.slice (slotR t j ht hj) (fun _ => rfl)).squeeze S128x4096 squeezes_S1x1x128x4096_S128x4096
/-- The rows of the own shard as the copies name them. -/
abbrev rowsM (X : Memref sig .tc .vmem S512x4096 .i8) (k : ℕ) (hk : k < 4) :
    Memref sig .tc .vmem S128x4096 .i8 :=
  X.slice (rowsR k hk) (fun _ => rfl)
/-- Semaphore `(s, j)` of an array of 7 by 2. -/
abbrev semOf (A : DmaSems sig S7x2) (s j : ℕ) (hs : s < 7) (hj : j < 2) : DmaSem sig :=
  ((A.slice (Rect.unit (s := S7x2) ![s, j] S1x1.size (inb_sem s j hs hj))).squeeze S_ squeezes_S1x1_S_).sem

theorem words_slot (t j : ℕ) (ht : t < 8) (hj : j < 2) : (slotR t j ht hj).WholeWords (EltTy.packing .i8) :=
  .inr ⟨by decide, rfl, rfl, rfl⟩
theorem words_rows (k : ℕ) (hk : k < 4) : (rowsR k hk).WholeWords (EltTy.packing .i8) := by
  have h : ∀ k : Fin 4, (rowsR k.val k.isLt).WholeWords (EltTy.packing .i8) := by decide
  exact h ⟨k, hk⟩

theorem slotM_words {M : Memref sig .tc .vmem S8x2x128x4096 .i8} (hM : M.IsWhole) (t j : ℕ) (ht : t < 8)
    (hj : j < 2) : (slotM M t j ht hj).view.WordExact :=
  (hM.wordExact_slice rfl _ (words_slot t j ht hj)).reshape _ _
theorem rowsM_words {X : Memref sig .tc .vmem S512x4096 .i8} (hX : X.IsWhole) (k : ℕ) (hk : k < 4) :
    (rowsM X k hk).view.WordExact :=
  hX.wordExact_slice rfl _ (words_rows k hk)

/-- What step `s` sends: at the first step the device's own rows (its quarter `k + j`), later the part that
    the step before brought. -/
def srcM (X : Memref sig .tc .vmem S512x4096 .i8) (M : Memref sig .tc .vmem S8x2x128x4096 .i8) (k : ℕ) (hk : k ≤ 2) :
    (s j : ℕ) → s < 7 → j < 2 → Memref sig .tc .vmem S128x4096 .i8
  | 0, j, _, hj => rowsM X (k + j) (by omega)
  | s + 1, j, hs, hj => slotM M (s + 1) j (by omega) hj

theorem srcM_words {X : Memref sig .tc .vmem S512x4096 .i8} (hX : X.IsWhole)
    {M : Memref sig .tc .vmem S8x2x128x4096 .i8} (hM : M.IsWhole) (k : ℕ) (hk : k ≤ 2) :
    ∀ (s j : ℕ) (hs : s < 7) (hj : j < 2), (srcM X M k hk s j hs hj).view.WordExact
  | 0, j, _, hj => rowsM_words hX _ _
  | s + 1, j, hs, hj => slotM_words hM _ _ _ _

/-! ## The pieces -/

section
variable (X : Memref sig .tc .vmem S512x4096 .i8) (hX : X.IsWhole)
  (M : Memref sig .tc .vmem S8x2x128x4096 .i8) (hM : M.IsWhole) (k : ℕ) (hk : k ≤ 2)
  (SA RA : DmaSems sig S7x2)

/-- Send part `j` of step `s` to device `dst`. -/
def startP (dst : Dev nD) (s j : ℕ) (hs : s < 7) (hj : j < 2) : KProg (F := F) PUnit :=
  Prog.lift (.enqueueDma (srcM X M k hk s j hs hj)
    (.remote (Dev.tc dst) (slotM M (s + 1) j (by omega) hj) (.dma (semOf SA s j hs hj))) (.dma (semOf RA s j hs hj))
    (srcM_words hX hM k hk s j hs hj) (slotM_words hM _ _ _ _) ⟨⟨rfl, Or.inl rfl⟩, trivial⟩)
/-- Wait for part `j` of step `s`. -/
def recvP (s j : ℕ) (hs : s < 7) (hj : j < 2) : KProg (F := F) PUnit :=
  Prog.lift (.waitDma2 (semOf RA s j hs hj) (srcM X M k hk s j hs hj) (slotM M (s + 1) j (by omega) hj)
    (srcM_words hX hM k hk s j hs hj) (slotM_words hM _ _ _ _))
/-- Wait until the send of part `j` of step `s` has read its source. -/
def drainP (s j : ℕ) (hs : s < 7) (hj : j < 2) : KProg (F := F) PUnit :=
  Prog.lift (.waitDma2 (semOf SA s j hs hj) (slotM M (s + 1) j (by omega) hj) (srcM X M k hk s j hs hj)
    (slotM_words hM _ _ _ _) (srcM_words hX hM k hk s j hs hj))

end

/-- One block of the product: the origin from the table, the two parts of slot `s + 1`, the weights, the
    block of the result stored where the origin says. -/
def gemmP (off : BitVec 32 → Fin 2 → ℕ)
    (chk : BitVec 32 → Prop) (dec : ∀ v, Decidable (chk v))
    (inb : ∀ v, chk v → ∀ a, off v a + S256x1024.size a ≤ S4096x1024.size a)
    (pay : F .f32 → Vec F S1x2x128x4096 .i8 → Vec F S4096x1024 .bf16 → FVec F S256x1024 .f32)
    (T : Memref sig .tc .smem S7 .i32) (M : Memref sig .tc .vmem S8x2x128x4096 .i8)
    (W : Memref sig .tc .vmem S4096x1024 .bf16) (O : Memref sig .tc .vmem S4096x1024 .f32)
    (sc : F .f32) (s : ℕ) (hs : s < 7) : KProg (F := F) PUnit := do
  let v : Elt F .i32 ← smemLoad T (Rect.unit (s := S7) ![s] S1.size (inb_word7 s hs)) numel1_S1 rfl
  have hv : chk v := (← Prog.lift (TpuEff.assume (chk v) (dec v))).down
  let g : Vec F S1x2x128x4096 .i8 ← Prog.lift (.load M (pairR (s + 1) (by omega)).toLoadRect (View.loadsAt_vmem h_S1x2x128x4096))
  let w : Vec F S4096x1024 .bf16 ← Prog.lift (.load W (Rect.unit (s := S4096x1024) ![0, 0] S4096x1024.size inb_S4096x1024_S4096x1024_0_0).toLoadRect (View.loadsAt_vmem h_S4096x1024))
  let o : Vec F S256x1024 .f32 ← Prog.lift (.load O (Rect.unit (s := S4096x1024) (off v) S256x1024.size (inb v hv)).toLoadRect (View.loadsAt_vmem h_S256x1024))
  Prog.lift (.store O (Rect.unit (s := S4096x1024) (off v) S256x1024.size (inb v hv)) (pay sc g w) Finset.univ (View.stores_vmem_bits_univ h_S256x1024 rfl) (.inl rfl))

section
variable (arg0 : Memref sig .tc .vmem S512x4096 .i8) (harg0 : arg0.IsWhole)
  (arg1 : Memref sig .tc .vmem S4096x1024 .i8)
  (arg2 arg3 : Memref sig .tc .smem S1 .f32) (arg4 : Memref sig .tc .smem S3 .i32)
  (arg5 arg6 : Memref sig .tc .smem S7 .i32) (arg7 : Memref sig .tc .vmem S4096x1024 .f32)
  (arg8 : Memref sig .tc .vmem S8x2x128x4096 .i8) (harg8 : arg8.IsWhole)
  (arg9 : Memref sig .tc .vmem S8x2x128x4096 .i8) (harg9 : arg9.IsWhole)
  (arg10 : Memref sig .tc .vmem S4096x1024 .bf16) (harg10 : arg10.IsWhole)
  (arg11 arg12 arg13 arg14 : DmaSems sig S7x2)

/-- Before the ring: the neighbours from the table, the handshake with both. -/
def preP : KProg (F := F) (Σ' (v0 : Elt F .i32) (_ : k0_chk2 v0) (v1 : Elt F .i32), k0_chk1 v1) := do
  let v0 : Elt F .i32 ← smemLoad arg4 (Rect.unit (s := S3) ![0] S1.size inb_S3_S1_0) numel1_S1 rfl
  have h2 : k0_chk2 v0 := (← Prog.lift (TpuEff.assume (k0_chk2 v0) (k0_chk2.dec v0))).down
  let v1 : Elt F .i32 ← smemLoad arg4 (Rect.unit (s := S3) ![1] S1.size inb_S3_S1_1) numel1_S1 rfl
  have h1 : k0_chk1 v1 := (← Prog.lift (TpuEff.assume (k0_chk1 v1) (k0_chk1.dec v1))).down
  semSignalWord (⟨k0_dev1 v1, k0_dev1_lt v1 h1⟩ : Dev nD) (SemArray.scalar (sig.barrier 0 rfl) : Sems sig S_).sem 1#32
  semSignalWord (⟨k0_dev2 v0, k0_dev2_lt v0 h2⟩ : Dev nD) (SemArray.scalar (sig.barrier 0 rfl) : Sems sig S_).sem 1#32
  semWaitWord (SemArray.scalar (sig.barrier 0 rfl) : Sems sig S_).sem 2#32
  pure ⟨v0, h2, v1, h1⟩

/-- The weights cast once, the scales, and the device's own block of the product. -/
def ownP : KProg (F := F) (F .f32) := do
  let v43 : Vec F S4096x1024 .i8 ← Prog.lift (.load arg1 (Rect.unit (s := S4096x1024) ![0, 0] S4096x1024.size inb_S4096x1024_S4096x1024_0_0).toLoadRect (View.loadsAt_vmem h_S4096x1024))
  let v46 : Vec F S4096x1024 .bf16 ← Prog.lift (.load arg10 (Rect.unit (s := S4096x1024) ![0, 0] S4096x1024.size inb_S4096x1024_S4096x1024_0_0).toLoadRect (View.loadsAt_vmem h_S4096x1024))
  Prog.lift (.store arg10 (Rect.unit (s := S4096x1024) ![0, 0] S4096x1024.size inb_S4096x1024_S4096x1024_0_0) (k0_pay1 v43) Finset.univ (View.stores_vmem h_S4096x1024 (harg10.storeExact_slice rfl _ packedbf16_S4096x1024_S4096x1024_0_0) (fun _ => rfl)) (.inl rfl))
  let v49 : Elt F .f32 ← smemLoad arg2 (Rect.unit (s := S1) ![0] S1.size inb_S1_S1_0) numel1_S1 rfl
  let v50 : Elt F .f32 ← smemLoad arg3 (Rect.unit (s := S1) ![0] S1.size inb_S1_S1_0) numel1_S1 rfl
  let v52 : Elt F .i32 ← smemLoad arg4 (Rect.unit (s := S3) ![2] S1.size inb_S3_S1_2) numel1_S1 rfl
  have h3 : k0_chk3 v52 := (← Prog.lift (TpuEff.assume (k0_chk3 v52) (k0_chk3.dec v52))).down
  let v54 : Vec F S512x4096 .i8 ← Prog.lift (.load arg0 (Rect.unit (s := S512x4096) ![0, 0] S512x4096.size inb_S512x4096_S512x4096_0_0).toLoadRect (View.loadsAt_vmem h_S512x4096))
  let v57 : Vec F S4096x1024 .bf16 ← Prog.lift (.load arg10 (Rect.unit (s := S4096x1024) ![0, 0] S4096x1024.size inb_S4096x1024_S4096x1024_0_0).toLoadRect (View.loadsAt_vmem h_S4096x1024))
  let v64 : Vec F S512x1024 .f32 ← Prog.lift (.load arg7 (Rect.unit (s := S4096x1024) (k0_off1 v52) S512x1024.size (k0_off1_inb v52 h3)).toLoadRect (View.loadsAt_vmem h_S512x1024))
  Prog.lift (.store arg7 (Rect.unit (s := S4096x1024) (k0_off1 v52) S512x1024.size (k0_off1_inb v52 h3)) (k0_pay3 v49 v50 v54 v57) Finset.univ (View.stores_vmem_bits_univ h_S512x1024 rfl) (.inl rfl))
  pure (k0_pay2 v49 v50)

/-- Step `s` of both rings but for its products: each part is awaited and, before the last step, passed on. -/
def ringP (r l : Dev nD) (s j : ℕ) (hs : s + 1 < 7) (hj : j < 2) : KProg (F := F) PUnit := do
  recvP arg0 harg0 arg8 harg8 0 (by omega) arg12 s j (by omega) hj
  startP arg0 harg0 arg8 harg8 0 (by omega) arg11 arg12 r (s + 1) j hs hj
  recvP arg0 harg0 arg9 harg9 2 (by omega) arg14 s j (by omega) hj
  startP arg0 harg0 arg9 harg9 2 (by omega) arg13 arg14 l (s + 1) j hs hj

/-- The two products of step `s`. -/
def gemmsP (sc : F .f32) (s : ℕ) (hs : s < 7) : KProg (F := F) PUnit := do
  gemmP k0_off2 k0_chk4 k0_chk4.dec k0_off2_inb k0_pay4 arg5 arg8 arg10 arg7 sc s hs
  gemmP k0_off3 k0_chk5 k0_chk5.dec k0_off3_inb k0_pay5 arg6 arg9 arg10 arg7 sc s hs

/-- One step of both rings. -/
def stepP (r l : Dev nD) (sc : F .f32) (s : ℕ) (hs : s + 1 < 7) : KProg (F := F) PUnit := do
  ringP arg0 harg0 arg8 harg8 arg9 harg9 arg11 arg12 arg13 arg14 r l s 0 hs (by omega)
  ringP arg0 harg0 arg8 harg8 arg9 harg9 arg11 arg12 arg13 arg14 r l s 1 hs (by omega)
  gemmsP arg5 arg6 arg7 arg8 arg9 arg10 sc s (by omega)

/-- The last step, which passes nothing on. -/
def lastP (sc : F .f32) : KProg (F := F) PUnit := do
  recvP arg0 harg0 arg8 harg8 0 (by omega) arg12 6 0 (by omega) (by omega)
  recvP arg0 harg0 arg9 harg9 2 (by omega) arg14 6 0 (by omega) (by omega)
  recvP arg0 harg0 arg8 harg8 0 (by omega) arg12 6 1 (by omega) (by omega)
  recvP arg0 harg0 arg9 harg9 2 (by omega) arg14 6 1 (by omega) (by omega)
  gemmsP arg5 arg6 arg7 arg8 arg9 arg10 sc 6 (by omega)

/-- The waits for the sends of step `s`. -/
def drainsP (s : ℕ) (hs : s < 7) : KProg (F := F) PUnit := do
  drainP arg0 harg0 arg8 harg8 0 (by omega) arg11 s 0 hs (by omega)
  drainP arg0 harg0 arg9 harg9 2 (by omega) arg13 s 0 hs (by omega)
  drainP arg0 harg0 arg8 harg8 0 (by omega) arg11 s 1 hs (by omega)
  drainP arg0 harg0 arg9 harg9 2 (by omega) arg13 s 1 hs (by omega)

/-- The first sends, both parts in both directions. -/
def firstP (r l : Dev nD) : KProg (F := F) PUnit := do
  startP arg0 harg0 arg8 harg8 0 (by omega) arg11 arg12 r 0 0 (by omega) (by omega)
  startP arg0 harg0 arg9 harg9 2 (by omega) arg13 arg14 l 0 0 (by omega) (by omega)
  startP arg0 harg0 arg8 harg8 0 (by omega) arg11 arg12 r 0 1 (by omega) (by omega)
  startP arg0 harg0 arg9 harg9 2 (by omega) arg13 arg14 l 0 1 (by omega) (by omega)

/-- The whole body. -/
def allP : KProg (F := F) PUnit := do
  let ⟨v0, h2, v1, h1⟩ ← preP (F := F) arg4
  let r : Dev nD := ⟨k0_dev2 v0, k0_dev2_lt v0 h2⟩
  let l : Dev nD := ⟨k0_dev1 v1, k0_dev1_lt v1 h1⟩
  firstP arg0 harg0 arg8 harg8 arg9 harg9 arg11 arg12 arg13 arg14 r l
  let sc ← ownP arg0 arg1 arg2 arg3 arg4 arg7 arg10 harg10
  stepP arg0 harg0 arg5 arg6 arg7 arg8 harg8 arg9 harg9 arg10 arg11 arg12 arg13 arg14 r l sc 0 (by omega)
  stepP arg0 harg0 arg5 arg6 arg7 arg8 harg8 arg9 harg9 arg10 arg11 arg12 arg13 arg14 r l sc 1 (by omega)
  stepP arg0 harg0 arg5 arg6 arg7 arg8 harg8 arg9 harg9 arg10 arg11 arg12 arg13 arg14 r l sc 2 (by omega)
  stepP arg0 harg0 arg5 arg6 arg7 arg8 harg8 arg9 harg9 arg10 arg11 arg12 arg13 arg14 r l sc 3 (by omega)
  stepP arg0 harg0 arg5 arg6 arg7 arg8 harg8 arg9 harg9 arg10 arg11 arg12 arg13 arg14 r l sc 4 (by omega)
  stepP arg0 harg0 arg5 arg6 arg7 arg8 harg8 arg9 harg9 arg10 arg11 arg12 arg13 arg14 r l sc 5 (by omega)
  lastP arg0 harg0 arg5 arg6 arg7 arg8 harg8 arg9 harg9 arg10 arg12 arg14 sc
  drainsP arg0 harg0 arg8 harg8 arg9 harg9 arg11 arg13 0 (by omega)
  drainsP arg0 harg0 arg8 harg8 arg9 harg9 arg11 arg13 1 (by omega)
  drainsP arg0 harg0 arg8 harg8 arg9 harg9 arg11 arg13 2 (by omega)
  drainsP arg0 harg0 arg8 harg8 arg9 harg9 arg11 arg13 3 (by omega)
  drainsP arg0 harg0 arg8 harg8 arg9 harg9 arg11 arg13 4 (by omega)
  drainsP arg0 harg0 arg8 harg8 arg9 harg9 arg11 arg13 5 (by omega)
  drainsP arg0 harg0 arg8 harg8 arg9 harg9 arg11 arg13 6 (by omega)

end

end Cert.KernelIdeal.Run

end
-- ==== Proof.Ring.lean ====
/- The two rings: who a device's neighbours are, which buffers and semaphores belong to a direction, what a
   gather buffer holds when a part has landed, and the windows of a buffer as sets of elements. -/
module

public import proofs.«01_k».proof.Proof.Steps
public import Idealize.ShloMosaic.Lib.Rounds
public import Idealize.ShloMosaic.Lib.Tactic

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## Neighbours -/

/-- The device at a position of the ring, and the position of a device. -/
def ringAt (i : Fin 8) : Dev nD := (![0, 4, 7, 3, 2, 6, 5, 1] : Fin 8 → Fin 8) i
def posOf (c : Dev nD) : Fin 8 := (![0, 7, 4, 3, 1, 6, 5, 2] : Fin 8 → Fin 8) c

/-- Where direction `b` sends: clockwise (`true`) to the right, the other way to the left. -/
def nx (b : Bool) (c : Dev nD) : Dev nD := ringAt (if b then posOf c + 1 else posOf c - 1)

theorem nx_back : ∀ (b : Bool) (c : Dev nD), nx b (nx (!b) c) = c := by decide
theorem back_nx : ∀ (b : Bool) (c : Dev nD), nx (!b) (nx b c) = c := by decide
theorem nx_inj (b : Bool) : Function.Injective (nx b) := fun c d h => by
  rw [← back_nx b c, h, back_nx]
/-- Direction `b` around the ring. -/
def turn (b : Bool) : Dev nD ≃ Dev nD := ⟨nx b, nx (!b), back_nx b, fun c => nx_back b c⟩

/-- Whose rows arrive at `c` after `t` steps of direction `b`. -/
def org (b : Bool) (t : ℕ) (c : Dev nD) : Dev nD := (nx (!b))^[t] c
theorem org_zero (b : Bool) (c : Dev nD) : org b 0 c = c := rfl
theorem org_succ (b : Bool) (t : ℕ) (c : Dev nD) : org b (t + 1) (nx b c) = org b t c := by
  unfold org; rw [Function.iterate_succ_apply, back_nx]

/-! ## Buffers and semaphores by direction -/

abbrev bufX : Memref sig .tc .vmem S512x4096 .i8 := Memref.whole cc0_stg0_0
theorem bufX_whole : bufX.IsWhole := Memref.isWhole_whole _
@[reducible] def bufD : Bool → Memref sig .tc .vmem S8x2x128x4096 .i8
  | true => Memref.whole cc0_scratch0
  | false => Memref.whole cc0_scratch1
theorem bufD_whole : ∀ b, (bufD b).IsWhole
  | true => Memref.isWhole_whole _
  | false => Memref.isWhole_whole _
/-- The first quarter of the own rows that a direction carries. -/
@[reducible] def kB : Bool → ℕ
  | true => 0
  | false => 2
theorem kB_le : ∀ b, kB b ≤ 2 := by decide
@[reducible] def sndA : Bool → DmaSems sig S7x2
  | true => cc0_scratch3
  | false => cc0_scratch5
@[reducible] def rcvA : Bool → DmaSems sig S7x2
  | true => cc0_scratch4
  | false => cc0_scratch6

/-- A copy: its direction, its step, its part. -/
abbrev Chan : Type := Bool × Fin 7 × Fin 2

abbrev sndS (p : Chan) : DmaSem sig := semOf (sndA p.1) p.2.1 p.2.2 p.2.1.isLt p.2.2.isLt
abbrev rcvS (p : Chan) : DmaSem sig := semOf (rcvA p.1) p.2.1 p.2.2 p.2.1.isLt p.2.2.isLt

/-- The copy a semaphore belongs to, and whether it is the receiver's. -/
def chanOf (n : DmaSem sig) : Option (Bool × Chan) :=
  if h : 8 ≤ n.val ∧ n.val < 64 then
    some (decide (14 ≤ (n.val - 8) % 28), decide ((n.val - 8) / 28 = 0),
      ⟨(n.val - 8) % 14 / 2, by omega⟩, ⟨(n.val - 8) % 2, by omega⟩)
  else none

theorem chanOf_snd : ∀ p : Chan, chanOf (sndS p) = some (false, p) := by decide
theorem chanOf_rcv : ∀ p : Chan, chanOf (rcvS p) = some (true, p) := by decide

abbrev slotB (b : Bool) (t : Fin 8) (j : Fin 2) : Memref sig .tc .vmem S128x4096 .i8 := slotM (bufD b) t j t.isLt j.isLt
abbrev srcB (b : Bool) (s : Fin 7) (j : Fin 2) : Memref sig .tc .vmem S128x4096 .i8 :=
  srcM bufX (bufD b) (kB b) (kB_le b) s j s.isLt j.isLt

/-! ## Contents -/

variable {F : FTy → Type} [FloatOps F]

theorem quarter_lt (b : Bool) (j : Fin 2) (r : Fin 128) : 128 * (kB b + j.val) + r.val < 512 := by
  have := kB_le b; omega
/-- Row `r` of part `j` of direction `b`, column `k`, among a device's own rows. -/
def rowIx (b : Bool) (j : Fin 2) (r : Fin 128) (k : Fin 4096) : S512x4096.Idx
  | 0 => (⟨128 * (kB b + j.val) + r.val, quarter_lt b j r⟩ : Fin 512)
  | 1 => k

variable (xs : Dev nD → Vec F S512x4096 .i8)

/-- What the gather buffer of direction `b` holds on `c` once everything has landed: slot `t` has the rows of the
    device `t` steps back. -/
def gath (c : Dev nD) (b : Bool) : Vec F S8x2x128x4096 .i8 := fun i =>
  xs (org b (i 0).val c) (rowIx b (i 1) (i 2) (i 3))
def gatB (c : Dev nD) : (b : Bool) → Buf (Elt F) ((bufD b).view.loc (c : Thread nD τ))
  | true => gath xs c true
  | false => gath xs c false
/-- What the source of a copy holds. -/
def srcF (c : Dev nD) (b : Bool) : (s j : ℕ) → (hs : s < 7) → (hj : j < 2) →
    Buf (Elt F) ((srcM bufX (bufD b) (kB b) (kB_le b) s j hs hj).view.loc (c : Thread nD τ))
  | 0, _, _, _ => xs c
  | _ + 1, _, _, _ => gatB xs c b
abbrev srcC (c : Dev nD) (b : Bool) (s : Fin 7) (j : Fin 2) : Buf (Elt F) ((srcB b s j).view.loc (c : Thread nD τ)) :=
  srcF xs c b s j s.isLt j.isLt

/-! ## Reads through the windows -/

/-- The index of a gather buffer behind row `y 0`, column `y 1` of part `j` of slot `t`. -/
def slotIx (t : Fin 8) (j : Fin 2) (y : S128x4096.Idx) : S8x2x128x4096.Idx
  | 0 => t
  | 1 => j
  | 2 => (y 0 : Fin 128)
  | 3 => (y 1 : Fin 4096)

theorem slotIx_lift (y : S128x4096.Idx) :
    Shape.reshapeEquiv (Shape.Squeezes.numel_eq squeezes_S1x1x128x4096_S128x4096) y
      = ((fun | 0 => (0 : Fin 1) | 1 => (0 : Fin 1) | 2 => (y 0 : Fin 128) | 3 => (y 1 : Fin 4096)) : S1x1x128x4096.Idx) := by
  apply Shape.reshapeEquiv_eq_of_rowMajor
  rw [Shape.rowMajor_val_four, Shape.rowMajor_val_two]
  show ((0 * 1 + 0) * 128 + (y 0).val) * 4096 + (y 1).val = (y 0).val * 4096 + (y 1).val
  omega

theorem slotR_emb (t : Fin 8) (j : Fin 2) (y : S128x4096.Idx) :
    (slotR t j t.isLt j.isLt).emb (Shape.reshapeEquiv (Shape.Squeezes.numel_eq squeezes_S1x1x128x4096_S128x4096) y)
      = slotIx t j y := by
  rw [slotIx_lift]
  funext a
  apply Fin.ext
  fin_cases a
  · show t.val + 1 * 0 = t.val; omega
  · show j.val + 1 * 0 = j.val; omega
  · show 0 + 1 * (y 0).val = (y 0).val; omega
  · show 0 + 1 * (y 1).val = (y 1).val; omega

theorem slot_emb (b : Bool) (t : Fin 8) (j : Fin 2) (y : S128x4096.Idx) :
    (slotB b t j).view.emb y = (bufD b).view.emb (slotIx t j y) := by
  rw [← slotR_emb t j y]; rfl

theorem gatB_read (c : Dev nD) (b : Bool) : (bufD b).view.read (Elt F) (gatB xs c b) = gath xs c b := by
  cases b <;> rfl

theorem slot_read (c : Dev nD) (b : Bool) (t : Fin 8) (j : Fin 2) (y : S128x4096.Idx) :
    (slotB b t j).view.read (Elt F) (gatB xs c b) y = gath xs c b (slotIx t j y) := by
  rw [← gatB_read xs c b, View.read_apply, View.read_apply, slot_emb]

theorem gath_next (c : Dev nD) (b : Bool) (s : Fin 7) (j : Fin 2) (y : S128x4096.Idx) :
    gath xs (nx b c) b (slotIx s.succ j y) = gath xs c b (slotIx s.castSucc j y) := by
  show xs (org b (s.val + 1) (nx b c)) _ = xs (org b s.val c) _
  rw [org_succ]; rfl

theorem rowsR_emb (b : Bool) (j : Fin 2) (h : kB b + j.val < 4) (y : S128x4096.Idx) :
    (rowsR (kB b + j.val) h).emb y = rowIx b j (y 0) (y 1) := by
  funext a
  apply Fin.ext
  fin_cases a
  · show 128 * (kB b + j.val) + 1 * (y 0).val = 128 * (kB b + j.val) + (y 0).val; omega
  · show 0 + 1 * (y 1).val = (y 1).val; omega

theorem src_read (c : Dev nD) (b : Bool) (s : Fin 7) (j : Fin 2) (y : S128x4096.Idx) :
    (srcB b s j).view.read (Elt F) (srcC xs c b s j) y = gath xs (nx b c) b (slotIx s.succ j y) := by
  rw [gath_next]
  obtain ⟨s, hs⟩ := s
  cases s with
  | zero =>
      show xs c ((rowsR (kB b + j.val) _).emb y) = xs c (rowIx b j (y 0) (y 1))
      rw [rowsR_emb]
  | succ s => exact slot_read xs c b ⟨s + 1, by omega⟩ j y

/-- Writing through a view what the view reads of some contents makes these contents there. -/
theorem write_read_on {sg : RefSig} {κ : Kind} {sp : Space} {sh : Shape} {e : EltTy} (v : View sg κ sp sh e)
    (fd g : v.ty.Contents (Elt F)) (w : Vec F sh e) (h : ∀ y, w y = v.read (Elt F) g y) :
    ∀ i ∈ v.set, v.write (Elt F) fd w Finset.univ i = g i := by
  intro i hi
  obtain ⟨y, -, rfl⟩ := Finset.mem_map.mp hi
  rw [View.write_emb_of_mem _ _ (Finset.mem_univ y), h y, View.read_apply, cast_cast, cast_eq]

/-- What a copy leaves in its slot: the contents the receiver's buffer is meant to hold. -/
theorem landing (c : Dev nD) (b : Bool) (s : Fin 7) (j : Fin 2)
    (fd : Buf (Elt F) ((slotB b s.succ j).view.loc (nx b c : Thread nD τ))) :
    ∀ i ∈ (slotB b s.succ j).view.set,
      (slotB b s.succ j).view.write (Elt F) fd ((srcB b s j).view.read (Elt F) (srcC xs c b s j)) Finset.univ i
        = gatB xs (nx b c) b i :=
  write_read_on _ _ _ _ fun y => by rw [src_read, slot_read xs (nx b c) b s.succ j y]

/-! ## The windows as sets -/

theorem mem_slotR (t : Fin 8) (j : Fin 2) (i : S8x2x128x4096.Idx) :
    i ∈ (slotR t j t.isLt j.isLt).set ↔ i 0 = t ∧ i 1 = j := by
  rw [Rect.mem_set_unit]
  constructor
  · intro h
    have h0 : t.val ≤ (i 0).val ∧ (i 0).val < t.val + 1 := h 0
    have h1 : j.val ≤ (i 1).val ∧ (i 1).val < j.val + 1 := h 1
    exact ⟨Fin.ext (by omega), Fin.ext (by omega)⟩
  · rintro ⟨rfl, rfl⟩ a
    fin_cases a
    · show (i 0).val ≤ (i 0).val ∧ (i 0).val < (i 0).val + 1; omega
    · show (i 1).val ≤ (i 1).val ∧ (i 1).val < (i 1).val + 1; omega
    · show 0 ≤ (i 2).val ∧ (i 2).val < 0 + 128; have : (i 2).val < 128 := (i 2).isLt; omega
    · show 0 ≤ (i 3).val ∧ (i 3).val < 0 + 4096; have : (i 3).val < 4096 := (i 3).isLt; omega

theorem mem_pairR (t : Fin 8) (i : S8x2x128x4096.Idx) : i ∈ (pairR t t.isLt).set ↔ i 0 = t := by
  rw [Rect.mem_set_unit]
  constructor
  · intro h
    have h0 : t.val ≤ (i 0).val ∧ (i 0).val < t.val + 1 := h 0
    exact Fin.ext (by omega)
  · rintro rfl a
    fin_cases a
    · show (i 0).val ≤ (i 0).val ∧ (i 0).val < (i 0).val + 1; omega
    · show 0 ≤ (i 1).val ∧ (i 1).val < 0 + 2; have : (i 1).val < 2 := (i 1).isLt; omega
    · show 0 ≤ (i 2).val ∧ (i 2).val < 0 + 128; have : (i 2).val < 128 := (i 2).isLt; omega
    · show 0 ≤ (i 3).val ∧ (i 3).val < 0 + 4096; have : (i 3).val < 4096 := (i 3).isLt; omega

theorem mem_rowsR (k : ℕ) (hk : k < 4) (i : S512x4096.Idx) :
    i ∈ (rowsR k hk).set ↔ 128 * k ≤ (i 0).val ∧ (i 0).val < 128 * k + 128 := by
  rw [Rect.mem_set_unit]
  constructor
  · intro h; exact h 0
  · intro h a
    fin_cases a
    · exact h
    · show 0 ≤ (i 1).val ∧ (i 1).val < 0 + 4096; have : (i 1).val < 4096 := (i 1).isLt; omega

/-- The elements of part `j` of slot `t`, in the buffer. -/
abbrev slotSet (b : Bool) (t : Fin 8) (j : Fin 2) : Finset (bufD b).view.ty.Idx := (slotB b t j).view.set

theorem slot_set (b : Bool) (t : Fin 8) (j : Fin 2) :
    slotSet b t j = (slotR t j t.isLt j.isLt).set.map (bufD b).view.emb := by
  show (((bufD b).view.slice (slotR t j t.isLt j.isLt)).reshape _ _).set = _
  rw [View.set_reshape, View.set_slice]

theorem pair_set (b : Bool) (t : Fin 8) :
    ((bufD b).access (pairR t t.isLt)).set = slotSet b t 0 ∪ slotSet b t 1 := by
  rw [slot_set, slot_set, ← Finset.map_union]
  show ((bufD b).view.slice (pairR t t.isLt)).set = _
  rw [View.set_slice]
  congr 1
  ext i
  rw [Finset.mem_union, mem_slotR, mem_slotR, mem_pairR]
  constructor
  · intro h
    have : ∀ k : Fin 2, k = 0 ∨ k = 1 := by decide
    rcases this (i 1) with h1 | h1
    · exact .inl ⟨h, h1⟩
    · exact .inr ⟨h, h1⟩
  · rintro (h | h) <;> exact h.1

theorem slots_disjoint (b : Bool) {t t' : Fin 8} {j j' : Fin 2} (h : (t, j) ≠ (t', j')) :
    Disjoint (slotSet b t j) (slotSet b t' j') := by
  rw [slot_set, slot_set, Finset.disjoint_map, Finset.disjoint_left]
  intro i h1 h2
  rw [mem_slotR] at h1 h2
  exact h (by rw [← h1.1, ← h1.2, ← h2.1, ← h2.2])

theorem slots_cover (b : Bool) :
    (Finset.univ : Finset (Fin 8 × Fin 2)).biUnion (fun q => slotSet b q.1 q.2) = Finset.univ := by
  have hu : (bufD b).view.set = Finset.univ := by cases b <;> exact View.set_whole _
  ext i
  simp only [Finset.mem_biUnion, Finset.mem_univ, _root_.true_and, iff_true]
  have hi : i ∈ (bufD b).view.set := by rw [hu]; exact Finset.mem_univ i
  obtain ⟨x, -, rfl⟩ := Finset.mem_map.mp hi
  refine ⟨(x 0, x 1), ?_⟩
  rw [slot_set, Finset.mem_map' (bufD b).view.emb]
  exact (mem_slotR (x 0) (x 1) x).mpr ⟨rfl, rfl⟩

/-- A direction's quarter of the own rows, as the elements of the staged block. -/
abbrev quarter (q : Bool × Fin 2) : Memref sig .tc .vmem S128x4096 .i8 := rowsM bufX (kB q.1 + q.2.val) (by have := kB_le q.1; omega)

abbrev quarterSet (q : Bool × Fin 2) : Finset bufX.view.ty.Idx := (quarter q).view.set

theorem quarter_set (q : Bool × Fin 2) :
    quarterSet q = (rowsR (kB q.1 + q.2.val) (by have := kB_le q.1; omega)).set.map bufX.view.emb := by
  show ((bufX.view.slice (rowsR (kB q.1 + q.2.val) _))).set = _
  rw [View.set_slice]

theorem quarters_disjoint {q q' : Bool × Fin 2} (h : q ≠ q') : Disjoint (quarterSet q) (quarterSet q') := by
  have hk : ∀ q q' : Bool × Fin 2, q ≠ q' → kB q.1 + q.2.val ≠ kB q'.1 + q'.2.val := by decide
  have := hk q q' h
  rw [quarter_set, quarter_set, Finset.disjoint_map, Finset.disjoint_left]
  intro i h1 h2
  rw [mem_rowsR] at h1 h2
  omega

theorem quarters_cover :
    (Finset.univ : Finset (Bool × Fin 2)).biUnion (fun q => quarterSet q) = Finset.univ := by
  ext i
  simp only [Finset.mem_biUnion, Finset.mem_univ, _root_.true_and, iff_true]
  have hi : i ∈ bufX.view.set := by rw [show bufX.view.set = Finset.univ from View.set_whole _]; exact Finset.mem_univ i
  obtain ⟨x, -, rfl⟩ := Finset.mem_map.mp hi
  have hx : (x 0).val < 512 := (x 0).isLt
  have hk : ∀ k : Fin 4, ∃ q : Bool × Fin 2, kB q.1 + q.2.val = k.val := by decide
  obtain ⟨q, hq⟩ := hk ⟨(x 0).val / 128, by omega⟩
  refine ⟨q, ?_⟩
  rw [quarter_set, Finset.mem_map' bufX.view.emb]
  have hq' : kB q.1 + q.2.val = (x 0).val / 128 := hq
  exact (mem_rowsR _ _ x).mpr ⟨by rw [hq']; omega, by rw [hq']; omega⟩

end Cert.KernelIdeal.Run

end
-- ==== Proof.Proto.lean ====
/- The protocol. A device signals both neighbours before it sends anything: the signal that pays duty `b` of the
   neighbour behind it in direction `b` hands over this device's landing slots of that direction. Every copy then
   pays one duty on the receiver's cell, with the slot at its final contents, and one on the sender's, with half
   the share of the source. A device owes, from the start, every unit its copies will bring. -/
module

public import proofs.«01_k».proof.Proof.Ring
public import Idealize.ShloMosaic.Lib.Pipeline.Regions
public import Idealize.ShloMosaic.Lib.Pipeline.Kit
public import Idealize.ShloMosaic.Lib.Pipeline.RegionTalk

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := sig.barrier 0 rfl
abbrev barCell (c : Dev nD) : GSem nD τ sig := ((c : Thread nD τ), .reg barS)
abbrev sndCell (c : Dev nD) (p : Chan) : GSem nD τ sig := ((c : Thread nD τ), .dma (sndS p))
abbrev rcvCell (c : Dev nD) (p : Chan) : GSem nD τ sig := ((c : Thread nD τ), .dma (rcvS p))

/-! ## Amounts -/

/-- The units one copy brings. -/
abbrev N : ℕ := (slotB true 0 0).view.dmaCredit
theorem N_pos : 0 < N := View.dmaCredit_pos _ (by decide)
theorem credit_slot (b : Bool) (t : Fin 8) (j : Fin 2) : (slotB b t j).view.dmaCredit = N := by cases b <;> rfl
theorem credit_src (b : Bool) (s : Fin 7) (j : Fin 2) : (srcB b s j).view.dmaCredit = N := by
  obtain ⟨s, hs⟩ := s
  cases s with
  | zero => cases b <;> rfl
  | succ s => exact credit_slot b ⟨s + 1, by omega⟩ j

variable (xs : Dev nD → Vec F S512x4096 .i8)

/-! ## Windows as assertions -/

/-- Part `j` of slot `t` of direction `b` on `c`, at share `q`, holding `f`. -/
abbrev slotP (c : Dev nD) (b : Bool) (t : Fin 8) (j : Fin 2) (q : PosShare TreeShare)
    (f : Buf (Elt F) ((slotB b t j).view.loc (c : Thread nD τ))) : sProp 𝕄 :=
  (slotB b t j).view.loc (c : Thread nD τ) ↦[(slotB b t j).view.set]{q} f
/-- The source of a copy at its contents. -/
abbrev srcP (c : Dev nD) (p : Chan) (q : PosShare TreeShare) : sProp 𝕄 :=
  (srcB p.1 p.2.1 p.2.2).view.loc (c : Thread nD τ) ↦[(srcB p.1 p.2.1 p.2.2).view.set]{q} srcC xs c p.1 p.2.1 p.2.2

/-! ## The schedule -/

/-- What the signal of duty `b` hands to `d`: the landing slots of the neighbour `d` sends to in direction `b`. -/
def barPay (d : Dev nD) (b : Bool) : sProp 𝕄 :=
  bigSep (Finset.univ : Finset (Fin 7 × Fin 2)) fun q =>
    iprop((∃ f, slotP (F := F) (nx b d) b q.1.succ q.2 fullShare f) ∗ reached ER (rcvCell (nx b d) (b, q)) 0)
def rcvPay (d : Dev nD) (p : Chan) : sProp 𝕄 := slotP d p.1 p.2.1.succ p.2.2 fullShare (gatB xs d p.1)
def sndPay (d : Dev nD) (p : Chan) : sProp 𝕄 := srcP xs d p fullShare.left

def payOf (d : Dev nD) (u : Bool) : SemLoc sig → sProp 𝕄
  | .reg _ => barPay d u
  | .dma n => match chanOf n with
    | some (true, p) => rcvPay xs d p
    | some (false, p) => sndPay xs d p
    | none => iprop(emp)
def dutiesOf : SemLoc sig → Finset Bool
  | .reg s => if s = barS then Finset.univ else ∅
  | .dma n => if (chanOf n).isSome then {true} else ∅
def amountOf : SemLoc sig → ℕ
  | .reg _ => 1
  | .dma _ => N

def ringRd : Rounds.Schedule (GSem nD τ sig) Bool 𝕄 where
  duties g r := if r = 0 ∧ g.1.2 = .tc then dutiesOf g.2 else ∅
  unitless _ := False
  amount g _ _ := amountOf g.2
  payload g _ u := payOf xs g.1.1 u g.2
  amount_pos g _ _ _ := by
    cases g.2
    · exact Nat.one_pos
    · exact N_pos

instance payOf_storable (d : Dev nD) (u : Bool) (s : SemLoc sig) : BI.Storable (upEmb : UEmb _ 𝕄) (payOf xs d u s) := by
  cases s with
  | reg s => show BI.Storable upEmb (barPay d u); unfold barPay; infer_instance
  | dma n =>
      show BI.Storable upEmb (match chanOf n with
        | some (true, p) => rcvPay xs d p | some (false, p) => sndPay xs d p | none => iprop(emp))
      unfold rcvPay sndPay
      split <;> infer_instance
instance ringRd_storable (g : GSem nD τ sig) (r : ℕ) (u : Bool) :
    BI.Storable (upEmb : UEmb _ 𝕄) ((ringRd (F := F) xs).payload g r u) := payOf_storable xs g.1.1 u g.2

theorem duties_bar (c : Dev nD) : (ringRd (F := F) xs).duties (barCell c) 0 = Finset.univ := by
  dsimp only [ringRd]; rw [if_pos ⟨rfl, rfl⟩]
  show (if barS = barS then (Finset.univ : Finset Bool) else ∅) = Finset.univ
  exact if_pos rfl
theorem duties_snd (c : Dev nD) (p : Chan) : (ringRd (F := F) xs).duties (sndCell c p) 0 = {true} := by
  dsimp only [ringRd]; rw [if_pos ⟨rfl, rfl⟩]
  show (if (chanOf (sndS p)).isSome then ({true} : Finset Bool) else ∅) = {true}
  rw [chanOf_snd]; rfl
theorem duties_rcv (c : Dev nD) (p : Chan) : (ringRd (F := F) xs).duties (rcvCell c p) 0 = {true} := by
  dsimp only [ringRd]; rw [if_pos ⟨rfl, rfl⟩]
  show (if (chanOf (rcvS p)).isSome then ({true} : Finset Bool) else ∅) = {true}
  rw [chanOf_rcv]; rfl
theorem duties_later (g : GSem nD τ sig) : ∀ r, 1 ≤ r → (ringRd (F := F) xs).duties g r = ∅ := fun r hr => by
  dsimp only [ringRd]; rw [if_neg (fun h => by omega)]

theorem payload_bar (c : Dev nD) (u : Bool) : (ringRd (F := F) xs).payload (barCell c) 0 u = barPay c u := rfl
theorem payload_snd (c : Dev nD) (p : Chan) (u : Bool) : (ringRd (F := F) xs).payload (sndCell c p) 0 u = sndPay xs c p := by
  show (match chanOf (sndS p) with
    | some (true, p) => rcvPay xs c p | some (false, p) => sndPay xs c p | none => iprop(emp)) = _
  rw [chanOf_snd]
theorem payload_rcv (c : Dev nD) (p : Chan) (u : Bool) : (ringRd (F := F) xs).payload (rcvCell c p) 0 u = rcvPay xs c p := by
  show (match chanOf (rcvS p) with
    | some (true, p) => rcvPay xs c p | some (false, p) => sndPay xs c p | none => iprop(emp)) = _
  rw [chanOf_rcv]

theorem expect_bar (c : Dev nD) : (ringRd (F := F) xs).expect (barCell c) 0 = 2 := by
  unfold Schedule.expect Schedule.amountOf; rw [duties_bar]; rfl
theorem expect_snd (c : Dev nD) (p : Chan) : (ringRd (F := F) xs).expect (sndCell c p) 0 = N := by
  unfold Schedule.expect Schedule.amountOf; rw [duties_snd, Finset.sum_singleton]; rfl
theorem expect_rcv (c : Dev nD) (p : Chan) : (ringRd (F := F) xs).expect (rcvCell c p) 0 = N := by
  unfold Schedule.expect Schedule.amountOf; rw [duties_rcv, Finset.sum_singleton]; rfl

theorem rest_bar (c : Dev nD) :
    bigSep ((ringRd (F := F) xs).duties (barCell c) 0 \ ∅) (fun u => (ringRd (F := F) xs).payload (barCell c) 0 u)
      = bigSep Finset.univ (fun b => barPay (F := F) c b) := by
  rw [Finset.sdiff_empty, duties_bar]; rfl
theorem rest_snd (c : Dev nD) (p : Chan) :
    bigSep ((ringRd (F := F) xs).duties (sndCell c p) 0 \ ∅) (fun u => (ringRd (F := F) xs).payload (sndCell c p) 0 u)
      = sndPay xs c p := by
  rw [Finset.sdiff_empty, duties_snd, bigSep_singleton, payload_snd]
theorem rest_rcv (c : Dev nD) (p : Chan) :
    bigSep ((ringRd (F := F) xs).duties (rcvCell c p) 0 \ ∅) (fun u => (ringRd (F := F) xs).payload (rcvCell c p) 0 u)
      = rcvPay xs c p := by
  rw [Finset.sdiff_empty, duties_rcv, bigSep_singleton, payload_rcv]

/-! ## Debts and levels -/

/-- What a device owes for the copies `S` it has still to send. -/
def Ow (c : Dev nD) (S : Finset Chan) : CellTallies nD τ sig Unit := ∑ p ∈ S, tallyAt (rcvCell (nx p.1 c) p) () N
/-- At the start: every copy, and a unit on each neighbour's barrier. -/
def O₀ (c : Dev nD) : CellTallies nD τ sig Unit :=
  Ow c Finset.univ + tallyAt (barCell (nx true c)) () 1 + tallyAt (barCell (nx false c)) () 1

theorem Ow_empty (c : Dev nD) : Ow c ∅ = 0 := Finset.sum_empty
theorem Ow_split (c : Dev nD) {S : Finset Chan} {p : Chan} (h : p ∉ S) :
    Ow c Sᶜ = Ow c (insert p S)ᶜ + tallyAt (rcvCell (nx p.1 c) p) () N := by
  unfold Ow
  rw [Finset.compl_insert, Finset.sum_erase_add _ _ (Finset.mem_compl.mpr h)]

theorem tallyAt_pos {g g' : GSem nD τ sig} {u u' : Unit} {k : ℕ}
    (h : 0 < (tallyAt g u k : CellTallies nD τ sig Unit) g' u') : g' = g := by
  rw [tallyAt_apply] at h
  by_contra hc
  rw [if_neg (fun h => hc h.1)] at h
  exact Nat.lt_irrefl 0 h
theorem add_pos_of {T T' : CellTallies nD τ sig Unit} {g : GSem nD τ sig} {u : Unit} (h : 0 < (T + T') g u) :
    0 < T g u ∨ 0 < T' g u := by
  rw [Pi.add_apply, Finsupp.add_apply] at h; omega
theorem Ow_pos {c : Dev nD} {S : Finset Chan} {g : GSem nD τ sig} {u : Unit} (h : 0 < Ow c S g u) :
    ∃ p ∈ S, g = rcvCell (nx p.1 c) p := by
  classical
  induction S using Finset.induction_on with
  | empty => exact absurd h (by rw [Ow_empty]; exact Nat.lt_irrefl 0)
  | insert p S hp ih =>
      unfold Ow at h
      rw [Finset.sum_insert hp] at h
      rcases add_pos_of h with h | h
      · exact ⟨p, Finset.mem_insert_self p S, tallyAt_pos h⟩
      · obtain ⟨q, hq, e⟩ := ih h
        exact ⟨q, Finset.mem_insert_of_mem hq, e⟩

def L (g : GSem nD τ sig) : Finset Unit := if g.1.2 = .tc then {()} else ∅
/-- Barrier cells first, then the receivers' cells in the order of the steps. -/
def lvS : SemLoc sig → ℕ
  | .reg _ => 1
  | .dma n => match chanOf n with
    | some (true, p) => 2 + p.2.1.val
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (p : Chan) (u : Unit) : lv (rcvCell c p) u = 2 + p.2.1.val := by
  show (match chanOf (rcvS p) with | some (true, p) => 2 + p.2.1.val | _ => 0) = _
  rw [chanOf_rcv]
theorem lv_bar (c : Dev nD) (u : Unit) : lv (barCell c) u = 1 := rfl

/-- A wait below every copy still to be sent. -/
theorem mayWait_of (c : Dev nD) (sm : SemLoc sig) (S : Finset Chan) (h : ∀ p ∈ S, lvS sm < 2 + p.2.1.val) :
    (levAts L lv : sProp 𝕄) ⊢ MayWait (c : Thread nD τ) sm () (Ow c S) :=
  MayOwe.of_cut (L := L) (lev := lv) (lvS sm)
    (fun p hp => by rw [Finset.mem_singleton.mp hp, L_tc]; exact Finset.mem_singleton_self _)
    (fun g u hg => by
      obtain ⟨p, hp, rfl⟩ := Ow_pos hg
      rw [L_tc]; exact Finset.mem_singleton_self _)
    (fun p hp => by rw [Finset.mem_singleton.mp hp]; exact Nat.le_refl _)
    (fun g u hg => by
      obtain ⟨p, hp, rfl⟩ := Ow_pos hg
      rw [lv_rcv]; exact h p hp)

theorem mayWait_bar (c : Dev nD) (S : Finset Chan) :
    (levAts L lv : sProp 𝕄) ⊢ MayWait (c : Thread nD τ) (.reg barS) () (Ow c S) :=
  mayWait_of c _ S fun p _ => by show 1 < 2 + p.2.1.val; omega
theorem mayWait_rcv (c : Dev nD) (p : Chan) (S : Finset Chan) (h : ∀ q ∈ S, p.2.1 < q.2.1) :
    (levAts L lv : sProp 𝕄) ⊢ MayWait (c : Thread nD τ) (.dma (rcvS p)) () (Ow c S) :=
  mayWait_of c _ S fun q hq => by
    have e : lvS (.dma (rcvS p)) = 2 + p.2.1.val := lv_rcv c p ()
    rw [e]; have := h q hq; omega

/-! ## The cells and their invariants -/

/-- A set of cells under a name of its own, so that it is nowhere computed. -/
def sealed (S : Finset (GSem nD τ sig)) : Finset (GSem nD τ sig) := Classical.choose (⟨S, rfl⟩ : ∃ T, T = S)
theorem sealed_eq (S : Finset (GSem nD τ sig)) : sealed S = S := Classical.choose_spec (⟨S, rfl⟩ : ∃ T, T = S)

/-- The cells of the barrier, and those of the copies. -/
def barCells : Finset (GSem nD τ sig) := sealed (Finset.univ.image barCell)
def dmaCells : Finset (GSem nD τ sig) :=
  sealed (Finset.univ.image fun q : Dev nD × Bool × Chan => if q.2.1 then rcvCell q.1 q.2.2 else sndCell q.1 q.2.2)

theorem bar_mem (c : Dev nD) : barCell c ∈ barCells := by
  unfold barCells; rw [sealed_eq]; exact Finset.mem_image_of_mem _ (Finset.mem_univ c)
theorem rcv_mem (c : Dev nD) (p : Chan) : rcvCell c p ∈ dmaCells := by
  unfold dmaCells; rw [sealed_eq]; exact Finset.mem_image.mpr ⟨(c, true, p), Finset.mem_univ _, rfl⟩
theorem snd_mem (c : Dev nD) (p : Chan) : sndCell c p ∈ dmaCells := by
  unfold dmaCells; rw [sealed_eq]; exact Finset.mem_image.mpr ⟨(c, false, p), Finset.mem_univ _, rfl⟩

/-- The invariants of all cells, at the names `K`. -/
@[irreducible] def invAll (K : GSem nD τ sig → ℕ) : sProp 𝕄 :=
  bigSep (barCells ∪ dmaCells) fun g => cellInv ER (ringRd xs) (K g) g

instance invAll_persistent (K : GSem nD τ sig → ℕ) : BI.Persistent (invAll (F := F) xs K) := by
  unfold invAll; infer_instance

theorem inv_bar (K : GSem nD τ sig → ℕ) (c : Dev nD) :
    invAll (F := F) xs K ⊢ cellInv ER (ringRd xs) (K (barCell c)) (barCell c) := by
  unfold invAll
  exact bigSep_elim (Finset.mem_union_left _ (bar_mem c))
theorem inv_rcv (K : GSem nD τ sig → ℕ) (c : Dev nD) (p : Chan) :
    invAll (F := F) xs K ⊢ cellInv ER (ringRd xs) (K (rcvCell c p)) (rcvCell c p) := by
  unfold invAll
  exact bigSep_elim (Finset.mem_union_right _ (rcv_mem c p))
theorem inv_snd (K : GSem nD τ sig → ℕ) (c : Dev nD) (p : Chan) :
    invAll (F := F) xs K ⊢ cellInv ER (ringRd xs) (K (sndCell c p)) (sndCell c p) := by
  unfold invAll
  exact bigSep_elim (Finset.mem_union_right _ (snd_mem c p))

theorem close (κ : ℕ) (g : GSem nD τ sig) :
    iprop(cellInv ER (ringRd (F := F) xs) κ g ∗ atPos ER g (0 + 1) ∅ 0) ⊢ (|={Set.univ}=> semVal g 0 : sProp 𝕄) :=
  Rounds.cell_close ER (ringRd xs) (Set.mem_univ κ) id (duties_later xs g)

abbrev 𝒱₀ : Variants := Variants.none

/-- A program of device `c`, from the assertion `P` on. -/
abbrev wpc (c : Dev nD) {α : Type} (p : KProg (F := F) α) (Q : α → sProp 𝕄) : sProp 𝕄 :=
  wp frame (wpE (defs₀ (F := F)) 𝒱₀ (c : Thread nD τ) none) Set.univ p Q

end Cert.KernelIdeal.Run

end
-- ==== Proof.Comm.lean ====
/- The steps of the rings: what a device holds of its copies between two steps, and what starting, receiving and
   draining one copy does to it. Everything is said of a symbolic device and a symbolic copy. -/
module

public import proofs.«01_k».proof.Proof.Proto

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S512x4096 .i8)

/-! ## Taking one or two out of a family and putting others back -/

theorem bigSep_swap {ι : Type} [Fintype ι] [DecidableEq ι] {Φ Ψ : ι → sProp 𝕄} (p : ι) (h : ∀ q, q ≠ p → Φ q = Ψ q) :
    bigSep Finset.univ Φ ⊢ iprop(Φ p ∗ (Ψ p -∗ bigSep Finset.univ Ψ)) := by
  rw [bigSep_univ_split (Φ := Φ) p, bigSep_univ_split (Φ := Ψ) p,
    bigSep_congr (fun q hq => h q (Finset.ne_of_mem_erase hq))]
  exact sep_mono_right (wand_intro sep_comm.1)

theorem bigSep_two {ι : Type} [Fintype ι] [DecidableEq ι] {Φ : ι → sProp 𝕄} (p q : ι) (h : q ≠ p) :
    bigSep Finset.univ Φ ⊢ iprop(Φ p ∗ Φ q ∗ (Φ p -∗ Φ q -∗ bigSep Finset.univ Φ)) := by
  rw [bigSep_univ_split (Φ := Φ) p, bigSep_erase (Φ := Φ) (Finset.mem_erase.mpr ⟨h, Finset.mem_univ q⟩)]
  exact sep_mono_right (sep_mono_right (wand_intro (wand_intro
    ((sep_assoc.1.trans sep_comm.1).trans sep_assoc.1))))

/-! ## What a device holds of its copies -/

/-- A copy not yet started: both duties it pays, the neighbour's landing slot, its own cell. -/
def pend (c : Dev nD) (p : Chan) : sProp 𝕄 :=
  iprop(dutyTok ER (sndCell c p) 0 true ∗ dutyTok ER (rcvCell (nx p.1 c) p) 0 true
    ∗ (∃ f, slotP (F := F) (nx p.1 c) p.1 p.2.1.succ p.2.2 fullShare f)
    ∗ reached ER (rcvCell (nx p.1 c) p) 0 ∗ reached ER (sndCell c p) 0 ∗ atPos ER (sndCell c p) 0 ∅ 0)
/-- A copy under way. -/
def fly (c : Dev nD) (p : Chan) : sProp 𝕄 :=
  iprop(cred (tallyAt (sndCell c p) () N) ∗ atPos ER (sndCell c p) 0 ∅ 0)
/-- A copy drained: the lent half of its source is back. -/
def done (c : Dev nD) (p : Chan) : sProp 𝕄 :=
  iprop(atPos ER (sndCell c p) (0 + 1) ∅ 0 ∗ srcP xs c p fullShare.left)
/-- A part not yet received. -/
def await (c : Dev nD) (p : Chan) : sProp 𝕄 :=
  iprop(cred (tallyAt (rcvCell c p) () N) ∗ atPos ER (rcvCell c p) 0 ∅ 0)
/-- A part received: half of its slot, all of it when it is not passed on. -/
def got (c : Dev nD) (p : Chan) : sProp 𝕄 :=
  iprop(atPos ER (rcvCell c p) (0 + 1) ∅ 0 ∗ slotP c p.1 p.2.1.succ p.2.2 fullShare.right (gatB xs c p.1)
    ∗ (if p.2.1 = 6 then slotP c p.1 p.2.1.succ p.2.2 fullShare.left (gatB xs c p.1) else iprop(emp)))

def sndSt (c : Dev nD) (S D : Finset Chan) (p : Chan) : sProp 𝕄 :=
  if p ∈ D then done xs c p else if p ∈ S then fly c p else pend c p
def rcvSt (c : Dev nD) (R : Finset Chan) (p : Chan) : sProp 𝕄 :=
  if p ∈ R then got xs c p else await c p

/-- Between two steps: the copies `S` started, `R` received, `D` drained. -/
def St (c : Dev nD) (S R D : Finset Chan) : sProp 𝕄 :=
  iprop(bigSep Finset.univ (sndSt xs c S D) ∗ bigSep Finset.univ (rcvSt xs c R)
    ∗ ∃ W, owes (c : Thread nD τ) (Ow c Sᶜ) W)

theorem sndSt_start (c : Dev nD) (S : Finset Chan) (p : Chan) (hp : p ∉ S) :
    bigSep Finset.univ (sndSt (F := F) xs c S ∅)
      ⊢ iprop(pend c p ∗ (fly c p -∗ bigSep Finset.univ (sndSt (F := F) xs c (insert p S) ∅))) := by
  have h := bigSep_swap (F := F) (Φ := sndSt xs c S ∅) (Ψ := sndSt xs c (insert p S) ∅) p (fun q hq => by
    unfold sndSt
    rw [if_neg (Finset.notMem_empty q), if_neg (Finset.notMem_empty q)]
    by_cases hs : q ∈ S
    · rw [if_pos hs, if_pos (Finset.mem_insert_of_mem hs)]
    · rw [if_neg hs, if_neg (fun h => (Finset.mem_insert.mp h).elim hq hs)])
  have e1 : sndSt (F := F) xs c S ∅ p = pend c p := by
    unfold sndSt; rw [if_neg (Finset.notMem_empty p), if_neg hp]
  have e2 : sndSt (F := F) xs c (insert p S) ∅ p = fly c p := by
    unfold sndSt; rw [if_neg (Finset.notMem_empty p), if_pos (Finset.mem_insert_self p S)]
  rwa [e1, e2] at h

theorem sndSt_drain (c : Dev nD) (D : Finset Chan) (p : Chan) (hp : p ∉ D) :
    bigSep Finset.univ (sndSt (F := F) xs c Finset.univ D)
      ⊢ iprop(fly c p ∗ (done xs c p -∗ bigSep Finset.univ (sndSt (F := F) xs c Finset.univ (insert p D)))) := by
  have h := bigSep_swap (F := F) (Φ := sndSt xs c Finset.univ D) (Ψ := sndSt xs c Finset.univ (insert p D)) p (fun q hq => by
    unfold sndSt
    by_cases hs : q ∈ D
    · rw [if_pos hs, if_pos (Finset.mem_insert_of_mem hs)]
    · rw [if_neg hs, if_neg (fun h => (Finset.mem_insert.mp h).elim hq hs)])
  have e1 : sndSt (F := F) xs c Finset.univ D p = fly c p := by
    unfold sndSt; rw [if_neg hp, if_pos (Finset.mem_univ p)]
  have e2 : sndSt (F := F) xs c Finset.univ (insert p D) p = done xs c p := by
    unfold sndSt; rw [if_pos (Finset.mem_insert_self p D)]
  rwa [e1, e2] at h

theorem rcvSt_take (c : Dev nD) (R : Finset Chan) (p : Chan) (hp : p ∉ R) :
    bigSep Finset.univ (rcvSt (F := F) xs c R)
      ⊢ iprop(await c p ∗ (got xs c p -∗ bigSep Finset.univ (rcvSt (F := F) xs c (insert p R)))) := by
  have h := bigSep_swap (F := F) (Φ := rcvSt xs c R) (Ψ := rcvSt xs c (insert p R)) p (fun q hq => by
    unfold rcvSt
    by_cases hs : q ∈ R
    · rw [if_pos hs, if_pos (Finset.mem_insert_of_mem hs)]
    · rw [if_neg hs, if_neg (fun h => (Finset.mem_insert.mp h).elim hq hs)])
  have e1 : rcvSt (F := F) xs c R p = await c p := by unfold rcvSt; rw [if_neg hp]
  have e2 : rcvSt (F := F) xs c (insert p R) p = got xs c p := by unfold rcvSt; rw [if_pos (Finset.mem_insert_self p R)]
  rwa [e1, e2] at h

/-! ## One copy -/

abbrev startB (dst : Dev nD) (p : Chan) : KProg (F := F) PUnit :=
  startP bufX bufX_whole (bufD p.1) (bufD_whole p.1) (kB p.1) (kB_le p.1) (sndA p.1) (rcvA p.1) dst p.2.1 p.2.2 p.2.1.isLt p.2.2.isLt
abbrev recvB (p : Chan) : KProg (F := F) PUnit :=
  recvP bufX bufX_whole (bufD p.1) (bufD_whole p.1) (kB p.1) (kB_le p.1) (rcvA p.1) p.2.1 p.2.2 p.2.1.isLt p.2.2.isLt
abbrev drainB (p : Chan) : KProg (F := F) PUnit :=
  drainP bufX bufX_whole (bufD p.1) (bufD_whole p.1) (kB p.1) (kB_le p.1) (sndA p.1) p.2.1 p.2.2 p.2.1.isLt p.2.2.isLt

theorem landed_pay (c : Dev nD) (p : Chan) (fd : Buf (Elt F) ((slotB p.1 p.2.1.succ p.2.2).view.loc (nx p.1 c : Thread nD τ))) :
    ((slotB p.1 p.2.1.succ p.2.2).view.loc (nx p.1 c : Thread nD τ) ↦[(slotB p.1 p.2.1.succ p.2.2).view.set]{fullShare}
        ((slotB p.1 p.2.1.succ p.2.2).view.write (Elt F) fd
          ((srcB p.1 p.2.1 p.2.2).view.read (Elt F) (srcC xs c p.1 p.2.1 p.2.2)) Finset.univ))
      ⊢ (ringRd (F := F) xs).payload (rcvCell (nx p.1 c) p) 0 true := by
  rw [payload_rcv]; unfold rcvPay slotP
  exact Entails.of_eq (pointsTo_congr (landing xs c p.1 p.2.1 p.2.2 fd))

theorem wp_start (K : GSem nD τ sig → ℕ) (c : Dev nD) (S R : Finset Chan) (p : Chan) (hp : p ∉ S) (dst : Dev nD)
    (hd : dst = nx p.1 c) (Q : PUnit → sProp 𝕄) :
    iprop(invAll xs K ∗ srcP xs c p fullShare.left ∗ St xs c S R ∅ ∗ (St xs c (insert p S) R ∅ -∗ Q ⟨⟩))
      ⊢ wpc c (startB (F := F) dst p) Q := by
  subst hd
  unfold St
  iintro ⟨#HI, Hsrc, ⟨Hs, Hr, %W, HO⟩, Hk⟩
  ihave Hs := (sndSt_start xs c S p hp) $$ Hs
  icases Hs with ⟨Hp, Hback⟩
  unfold pend
  icases Hp with ⟨HtS, HtR, ⟨%fd, Hslot⟩, #HrR, #HrS, Hat⟩
  ihave #HIs := (inv_snd xs K c p) $$ HI
  ihave #HIr := (inv_rcv xs K (nx p.1 c) p) $$ HI
  iapply (Rounds.wp_send_pointsTo 𝒱₀ ER (ringRd xs) (c : Thread nD τ) none (c' := (nx p.1 c : Thread nD τ))
      (src := srcB p.1 p.2.1 p.2.2) (dst := slotB p.1 p.2.1.succ p.2.2)
      (sS := .dma (sndS p)) (sem := .dma (rcvS p)) (q := fullShare.left) (fs := srcC xs c p.1 p.2.1 p.2.2)
      (κ₁ := K (sndCell c p)) (κ₂ := K (rcvCell (nx p.1 c) p))
      (r₁ := 0) (r₂ := 0) (d₁ := true) (d₂ := true) (fd := fd)
      (by rw [duties_snd]; exact Finset.mem_singleton_self _) (by rw [duties_rcv]; exact Finset.mem_singleton_self _)
      () () N (credit_slot p.1 p.2.1.succ p.2.2) rfl rfl (Ow c (insert p S)ᶜ) (Ow_split c hp) (W := W)
      (by rw [payload_snd]; exact BI.Entails.refl _)
      (landed_pay xs c p fd)) $$ [Hsrc Hslot HO HtS HtR]
  · isplitr; · iexact HIs
    isplitr; · iexact HIr
    isplitl [Hsrc]; · iexact Hsrc
    isplitl [Hslot]; · iexact Hslot
    isplitl [HO]; · iexact HO
    isplitl [HtS]; · iexact HtS
    isplitr; · iexact HrS
    isplitl [HtR]; · iexact HtR
    iexact HrR
  iintro ⟨Hc, HO⟩
  rw [wp_ret]
  imodintro
  iapply Hk
  isplitl [Hback Hc Hat]
  · iapply Hback
    unfold fly
    isplitl [Hc]; · iexact Hc
    iexact Hat
  isplitl [Hr]; · iexact Hr
  iexists W; iexact HO

/-- Receiving a part, before it is decided what becomes of its slot. -/
theorem wp_recv (K : GSem nD τ sig → ℕ) (c : Dev nD) (S : Finset Chan) (p : Chan) (hS : ∀ q ∈ Sᶜ, p.2.1 < q.2.1)
    (W : Waits sig Unit) (Q : PUnit → sProp 𝕄) :
    iprop(invAll xs K ∗ levAts L lv ∗ await c p ∗ owes (c : Thread nD τ) (Ow c Sᶜ) W
      ∗ ((atPos ER (rcvCell c p) (0 + 1) ∅ 0 ∗ slotP c p.1 p.2.1.succ p.2.2 fullShare (gatB xs c p.1)
          ∗ ∃ W, owes (c : Thread nD τ) (Ow c Sᶜ) W) -∗ Q ⟨⟩))
      ⊢ wpc c (recvB (F := F) p) Q := by
  unfold await
  iintro ⟨#HI, #Hlev, ⟨Hc, Hat⟩, HO, Hk⟩
  ihave #HIr := (inv_rcv xs K c p) $$ HI
  iapply (Rounds.wp_wait_rest_token 𝒱₀ ER (ringRd xs) (c : Thread nD τ) none (κ := K (rcvCell c p))
      (wpE_waitDma2_eq (src := srcB p.1 p.2.1 p.2.2) (dst := slotB p.1 p.2.1.succ p.2.2) 𝒱₀ (c : Thread nD τ) none Set.univ)
      (Set.mem_univ _) () (O := Ow c Sᶜ) (W := W) (R := 0) (m := 0) (T := ∅)
      ((Nat.zero_add _).trans ((credit_slot p.1 p.2.1.succ p.2.2).trans (expect_rcv xs c p).symm))) $$ [Hc HO Hat]
  · isplitr; · iexact HIr
    isplitl [Hc]; · rw [credit_slot]; iexact Hc
    isplitl [HO]; · iexact HO
    isplitr; · iapply (mayWait_rcv c p Sᶜ hS); iexact Hlev
    iexact Hat
  iintro ⟨HO, Hat, -, Hpay⟩
  ihave Hp := (Entails.of_eq (rest_rcv xs c p)) $$ Hpay
  unfold rcvPay
  rw [wp_ret]
  imodintro
  iapply Hk
  isplitl [Hat]; · iexact Hat
  isplitl [Hp]; · iexact Hp
  iexists _; iexact HO

theorem slot_halves (c : Dev nD) (b : Bool) (t : Fin 8) (j : Fin 2) (f : Buf (Elt F) ((slotB b t j).view.loc (c : Thread nD τ))) :
    slotP (F := F) c b t j fullShare f ⊣⊢ iprop(slotP c b t j fullShare.left f ∗ slotP c b t j fullShare.right f) :=
  pointsTo_share (PosShare.mem_left_op_right fullShare)

/-- The last step of a ring: the slot is kept whole. -/
theorem wp_last (K : GSem nD τ sig → ℕ) (c : Dev nD) (R : Finset Chan) (p : Chan) (hp : p ∉ R)
    (h6 : p.2.1 = 6) (Q : PUnit → sProp 𝕄) :
    iprop(invAll xs K ∗ levAts L lv ∗ St xs c Finset.univ R ∅ ∗ (St xs c Finset.univ (insert p R) ∅ -∗ Q ⟨⟩))
      ⊢ wpc c (recvB (F := F) p) Q := by
  unfold St
  iintro ⟨#HI, #Hlev, ⟨Hs, Hr, %W, HO⟩, Hk⟩
  ihave Hr := (rcvSt_take xs c R p hp) $$ Hr
  icases Hr with ⟨Hp, Hback⟩
  iapply (wp_recv xs K c Finset.univ p (fun q hq => absurd hq (by rw [Finset.compl_univ]; exact Finset.notMem_empty q)) W Q)
  isplitr; · iexact HI
  isplitr; · iexact Hlev
  isplitl [Hp]; · iexact Hp
  isplitl [HO]; · iexact HO
  iintro ⟨Hat, Hslot, HO⟩
  ihave Hh := (slot_halves (F := F) c p.1 p.2.1.succ p.2.2 (gatB xs c p.1)).1 $$ Hslot
  icases Hh with ⟨Hl, Hh⟩
  iapply Hk
  isplitl [Hs]; · iexact Hs
  isplitl [Hback Hat Hl Hh]
  · iapply Hback
    unfold got
    rw [if_pos h6]
    isplitl [Hat]; · iexact Hat
    isplitl [Hh]; · iexact Hh
    iexact Hl
  iexact HO

/-- The part after a part. -/
abbrev next (p : Chan) (h : p.2.1.val < 6) : Chan := (p.1, ⟨p.2.1.val + 1, by omega⟩, p.2.2)

/-- Receiving a part and sending it on. -/
theorem wp_relay (K : GSem nD τ sig → ℕ) (c : Dev nD) (S R : Finset Chan) (p : Chan) (h6 : p.2.1.val < 6)
    (hp : p ∉ R) (hn : next p h6 ∉ S) (hS : ∀ q ∈ Sᶜ, p.2.1 < q.2.1) (dst : Dev nD)
    (hd : dst = nx p.1 c) (Q : PUnit → sProp 𝕄) :
    iprop(invAll xs K ∗ levAts L lv ∗ St xs c S R ∅ ∗ (St xs c (insert (next p h6) S) (insert p R) ∅ -∗ Q ⟨⟩))
      ⊢ wpc c (recvB (F := F) p) (fun _ => wpc c (startB (F := F) dst (next p h6)) Q) := by
  iintro ⟨#HI, #Hlev, HSt, Hk⟩
  unfold St
  icases HSt with ⟨Hs, Hr, %W, HO⟩
  ihave Hr := (rcvSt_take xs c R p hp) $$ Hr
  icases Hr with ⟨Hp, Hback⟩
  iapply (wp_recv xs K c S p hS W)
  isplitr; · iexact HI
  isplitr; · iexact Hlev
  isplitl [Hp]; · iexact Hp
  isplitl [HO]; · iexact HO
  iintro ⟨Hat, Hslot, HO⟩
  ihave Hh := (slot_halves (F := F) c p.1 p.2.1.succ p.2.2 (gatB xs c p.1)).1 $$ Hslot
  icases Hh with ⟨Hl, Hh⟩
  iapply (wp_start xs K c S (insert p R) (next p h6) hn dst hd Q)
  isplitr; · iexact HI
  isplitl [Hl]; · iexact Hl
  isplitl [Hs Hback Hat Hh HO]
  · unfold St
    isplitl [Hs]; · iexact Hs
    isplitl [Hback Hat Hh]
    · iapply Hback
      unfold got
      rw [if_neg (fun h => by rw [h] at h6; exact absurd h6 (by decide))]
      isplitl [Hat]; · iexact Hat
      isplitl [Hh]; · iexact Hh
      iempintro
    iexact HO
  unfold St
  iexact Hk

/-- Waiting for a send to have read its source. -/
theorem wp_drain (K : GSem nD τ sig → ℕ) (c : Dev nD) (R D : Finset Chan) (p : Chan) (hp : p ∉ D) (Q : PUnit → sProp 𝕄) :
    iprop(invAll xs K ∗ St xs c Finset.univ R D ∗ (St xs c Finset.univ R (insert p D) -∗ Q ⟨⟩))
      ⊢ wpc c (drainB (F := F) p) Q := by
  unfold St
  iintro ⟨#HI, ⟨Hs, Hr, %W, HO⟩, Hk⟩
  ihave Hs := (sndSt_drain xs c D p hp) $$ Hs
  icases Hs with ⟨Hp, Hback⟩
  unfold fly
  icases Hp with ⟨Hc, Hat⟩
  ihave #HIs := (inv_snd xs K c p) $$ HI
  iapply (Rounds.wp_wait_rest_token 𝒱₀ ER (ringRd xs) (c : Thread nD τ) none (κ := K (sndCell c p))
      (wpE_waitDma2_eq (src := slotB p.1 p.2.1.succ p.2.2) (dst := srcB p.1 p.2.1 p.2.2) 𝒱₀ (c : Thread nD τ) none Set.univ)
      (Set.mem_univ _) () (O := Ow c Finset.univᶜ) (W := W) (R := 0) (m := 0) (T := ∅)
      ((Nat.zero_add _).trans ((credit_src p.1 p.2.1 p.2.2).trans (expect_snd xs c p).symm))) $$ [Hc HO Hat]
  · isplitr; · iexact HIs
    isplitl [Hc]; · rw [credit_src]; iexact Hc
    isplitl [HO]; · iexact HO
    isplitr; · rw [Finset.compl_univ, Ow_empty, MayWait_zero]; iempintro
    iexact Hat
  iintro ⟨HO, Hat, -, Hpay⟩
  ihave Hp := (Entails.of_eq (rest_snd xs c p)) $$ Hpay
  unfold sndPay
  rw [wp_ret]
  imodintro
  iapply Hk
  isplitl [Hback Hat Hp]
  · iapply Hback
    unfold done
    isplitl [Hat]; · iexact Hat
    iexact Hp
  isplitl [Hr]; · iexact Hr
  iexists _; iexact HO

end Cert.KernelIdeal.Run

end
-- ==== Proof.Compute.lean ====
/- The parts of the body that touch one device only: reading words of the tables and the scales, the cast of the
   weights, and the products with their activation, each storing one block of rows of the result. -/
module

public import proofs.«01_k».proof.Proof.Comm

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A buffer of device `c`, whole. -/
abbrev pt (c : Dev nD) (r : Ref sig .tc) (q : PosShare TreeShare) (f : Buf (Elt F) ((c : Thread nD τ).loc r)) : sProp 𝕄 :=
  ((c : Thread nD τ).loc r) ↦{q} f

/-! ## What the result holds -/

section Target

variable (xs : Dev nD → Vec F S512x4096 .i8) (w : Vec F S4096x1024 .i8) (sx sw : F .f32)

/-- The block of 256 rows an element of the result lies in: the device whose rows they come from, and whether they
    are the first half of these. -/
def blkOf (i : S4096x1024.Idx) : Dev nD × Bool :=
  ((⟨(i 0).val / 512, by have : (i 0).val < 4096 := (i 0).isLt; show _ < 8; omega⟩ : Fin 8), decide ((i 0).val % 512 < 256))

def ix512 (i : S4096x1024.Idx) : S512x1024.Idx
  | 0 => (⟨(i 0).val % 512, Nat.mod_lt _ (by decide)⟩ : Fin 512)
  | 1 => (i 1 : Fin 1024)
def ix256 (i : S4096x1024.Idx) : S256x1024.Idx
  | 0 => (⟨(i 0).val % 256, Nat.mod_lt _ (by decide)⟩ : Fin 256)
  | 1 => (i 1 : Fin 1024)

/-- The half of the rows of device `d` that direction `b` carries, in the shape of a slot. -/
def chunk (b : Bool) (d : Dev nD) : Vec F S1x2x128x4096 .i8 := fun i => xs d (rowIx b (i 1) (i 2) (i 3))

/-- A block of the result from the rows that arrived. -/
def payB (b : Bool) (sc : F .f32) (g : Vec F S1x2x128x4096 .i8) (wb : Vec F S4096x1024 .bf16) : FVec F S256x1024 .f32 :=
  match b with
  | true => k0_pay4 sc g wb
  | false => k0_pay5 sc g wb

/-- The result on device `c`. -/
def target (c : Dev nD) : Vec F S4096x1024 .f32 := fun i =>
  if (blkOf i).1 = c then k0_pay3 sx sw (xs c) (k0_pay1 w) (ix512 i)
  else payB (blkOf i).2 (k0_pay2 sx sw) (chunk xs (blkOf i).2 (blkOf i).1) (k0_pay1 w) (ix256 i)

/-- The result's buffer, right on the blocks `P`. -/
def outP (c : Dev nD) (P : Dev nD × Bool → Prop) : sProp 𝕄 :=
  iprop(∃ f : Buf (Elt F) ((c : Thread nD τ).loc cc0_stg7_0), ⌜∀ i : S4096x1024.Idx, P (blkOf i) → f i = target xs w sx sw c i⌝
    ∗ pt c cc0_stg7_0 fullShare f)

theorem outP_mono (c : Dev nD) {P P' : Dev nD × Bool → Prop} (h : ∀ k, P' k → P k) :
    outP xs w sx sw c P ⊢ outP xs w sx sw c P' := by
  unfold outP
  iintro ⟨%f, %hf, Hf⟩
  iexists f
  isplitr; · ipureintro; exact fun i hi => hf i (h _ hi)
  iexact Hf

end Target

theorem wpc_bind (c : Dev nD) {α β : Type} (p : KProg (F := F) α) (k : α → KProg (F := F) β) (Q : β → sProp 𝕄) :
    wpc c p (fun a => wpc c (k a) Q) ⊢ wpc c (p >>= k) Q := Entails.of_eq (wp_bind ..).symm

theorem wpc_ret (c : Dev nD) {α : Type} (a : α) (Q : α → sProp 𝕄) :
    Q a ⊢ wpc c (Prog.ret a : KProg (F := F) α) Q := by
  unfold wpc
  rw [wp_ret]
  iintro H
  imodintro
  iexact H

theorem wpc_skip (c : Dev nD) {α β : Type} (a : α) (k : α → KProg (F := F) β) (Q : β → sProp 𝕄) :
    wpc c (k a) Q ⊢ wpc c ((Prog.ret a : KProg (F := F) α) >>= k) Q := Entails.of_eq rfl

/-! ## Loads -/

theorem first_zero {s : Shape} (h : 0 < s.numel) (a : Fin s.rank) : (Shape.Idx.first h a).val = 0 := rfl

def ix1 {n : ℕ} (s : Fin n) : (⟨1, ![n]⟩ : Shape).Idx
  | 0 => s

theorem wp_word (c : Dev nD) {n : ℕ} {e : EltTy} (T : Memref sig .tc .smem ⟨1, ![n]⟩ e) (q : PosShare TreeShare)
    (f : Buf (Elt F) (T.view.loc (c : Thread nD τ))) (s : Fin n)
    (inb : ∀ a, (![s.val] : Fin 1 → ℕ) a + S1.size a ≤ (⟨1, ![n]⟩ : Shape).size a) (h1) (hp) (Q : Elt F e → sProp 𝕄) :
    iprop((T.view.loc (c : Thread nD τ) ↦{q} f) ∗ ((T.view.loc (c : Thread nD τ) ↦{q} f) -∗ Q (T.view.read (Elt F) f (ix1 s))))
      ⊢ wpc c (smemLoad T (Rect.unit (s := ⟨1, ![n]⟩) ![s.val] S1.size inb) h1 hp) Q := by
  have e : (T.access (Rect.unit (s := ⟨1, ![n]⟩) ![s.val] S1.size inb)).read (Elt F) f
      (Shape.Idx.first (h1.symm ▸ Nat.one_pos)) = T.view.read (Elt F) f (ix1 s) := by
    show T.view.read (Elt F) f ((Rect.unit (s := ⟨1, ![n]⟩) ![s.val] S1.size inb).emb _) = _
    congr 1
    funext a
    apply Fin.ext
    have ha : a = 0 := Subsingleton.elim a 0
    subst ha
    show s.val + 1 * 0 = s.val
    omega
  iintro ⟨H, Hk⟩
  unfold smemLoad
  iapply (wp_smemLoadElt 𝒱₀ (c : Thread nD τ) none Set.univ (Finset.subset_univ _)) $$ [H]
  · iexact H
  iintro H
  rw [wp_ret]
  imodintro
  rw [← e]
  iapply Hk
  iexact H

theorem zero2 : (![0, 0] : Fin 2 → ℕ) = fun _ => 0 := by funext a; fin_cases a <;> rfl

theorem read_w (f : Vec F S4096x1024 .i8) :
    (Memref.whole cc0_stg1_0 : Memref sig .tc .vmem S4096x1024 .i8).view.readAt (Elt F)
      (Rect.unit (s := S4096x1024) ![0, 0] S4096x1024.size inb_S4096x1024_S4096x1024_0_0).toLoadRect f = f :=
  Memref.readAt_unit_zero (Elt F) cc0_stg1_0 zero2 _ f
theorem read_wb (f : Vec F S4096x1024 .bf16) :
    (Memref.whole cc0_scratch2 : Memref sig .tc .vmem S4096x1024 .bf16).view.readAt (Elt F)
      (Rect.unit (s := S4096x1024) ![0, 0] S4096x1024.size inb_S4096x1024_S4096x1024_0_0).toLoadRect f = f :=
  Memref.readAt_unit_zero (Elt F) cc0_scratch2 zero2 _ f
theorem write_wb (f g : Vec F S4096x1024 .bf16) :
    ((Memref.whole cc0_scratch2 : Memref sig .tc .vmem S4096x1024 .bf16).access
      (Rect.unit (s := S4096x1024) ![0, 0] S4096x1024.size inb_S4096x1024_S4096x1024_0_0)).write (Elt F) f g Finset.univ = g :=
  Memref.write_access_unit_zero_univ (Elt F) cc0_scratch2 zero2 _ f g
theorem read_x (f : Vec F S512x4096 .i8) :
    bufX.view.readAt (Elt F)
      (Rect.unit (s := S512x4096) ![0, 0] S512x4096.size inb_S512x4096_S512x4096_0_0).toLoadRect f = f :=
  Memref.readAt_unit_zero (Elt F) cc0_stg0_0 zero2 _ f

/-! ## Storing a block of rows -/

section Store

variable (xs : Dev nD → Vec F S512x4096 .i8) (w : Vec F S4096x1024 .i8) (sx sw : F .f32)

abbrev outM : Memref sig .tc .vmem S4096x1024 .f32 := Memref.whole cc0_stg7_0

/-- Storing over a rectangle the target's values there makes right every block inside the rectangle. -/
theorem wp_block (c : Dev nD) (P P' : Dev nD × Bool → Prop) (r : Rect S4096x1024) (v : r.shape.Idx → Elt F .f32)
    (hv : ∀ y, v y = target xs w sx sw c (r.emb y)) (hP : ∀ i, P' (blkOf i) → i ∉ r.set → P (blkOf i))
    (hl) (hx) (hm) (Q : PUnit → sProp 𝕄) :
    iprop(outP xs w sx sw c P ∗ (outP xs w sx sw c P' -∗ Q ⟨⟩))
      ⊢ wpc c (do
          let _o : r.shape.Idx → Elt F .f32 ← Prog.lift (.load outM r.toLoadRect hl)
          Prog.lift (.store outM r v Finset.univ hx hm)) Q := by
  unfold outP
  iintro ⟨⟨%f, %hf, H⟩, Hk⟩
  iapply (wp_load_rect 𝒱₀ (c : Thread nD τ) none Set.univ (m := outM) (r := r) (Finset.subset_univ _)) $$ [H]
  · iexact H
  iintro H
  iapply (wp_store 𝒱₀ (c : Thread nD τ) none Set.univ (m := outM) (r := r) (Finset.subset_univ _)) $$ [H]
  · iexact H
  iintro H
  rw [wp_ret]
  imodintro
  iapply Hk
  iexists _
  isplitr
  rotate_left
  · iexact H
  ipureintro
  intro i hi
  by_cases hr : i ∈ r.set
  · rw [← Rect.map_emb_univ] at hr
    obtain ⟨y, -, rfl⟩ := Finset.mem_map.mp hr
    have h := View.write_emb_of_mem (v := outM.access r) (Val := Elt F) f v (Finset.mem_univ y)
    rw [cast_eq] at h
    exact h.trans (hv y)
  · have h := View.write_of_not_mem (v := outM.access r) (Val := Elt F) f v Finset.univ (i := i)
      (by rw [View.setOn_univ]; show i ∉ ((View.whole cc0_stg7_0).slice r).set; rw [View.set_slice_whole]; exact hr)
    exact h.trans (hf i (hP i hi hr))

theorem mem_blk (d : Dev nD) (b : Bool) (n : ℕ) (hn : n = 512 * d.val + (if b then 0 else 256)) (inb)
    (i : S4096x1024.Idx) (h : blkOf i = (d, b)) :
    i ∈ (Rect.unit (s := S4096x1024) ![n, 0] S256x1024.size inb).set := by
  have h1 : (i 0).val / 512 = d.val := congrArg (fun q : Dev nD × Bool => q.1.val) h
  have h2 : decide ((i 0).val % 512 < 256) = b := congrArg Prod.snd h
  rw [Rect.mem_set_unit]
  intro a
  have hi1 : (i 1).val < 1024 := (i 1).isLt
  fin_cases a
  · show n ≤ (i 0).val ∧ (i 0).val < n + 256
    cases b
    · have := of_decide_eq_false h2
      simp only [Bool.false_eq_true, if_false] at hn
      omega
    · have := of_decide_eq_true h2
      simp only [if_true] at hn
      omega
  · show 0 ≤ (i 1).val ∧ (i 1).val < 0 + 1024
    omega

theorem blkOf_emb (d : Dev nD) (b : Bool) (n : ℕ) (hn : n = 512 * d.val + (if b then 0 else 256)) (inb)
    (y : S256x1024.Idx) :
    blkOf ((Rect.unit (s := S4096x1024) ![n, 0] S256x1024.size inb).emb y) = (d, b)
      ∧ ix256 ((Rect.unit (s := S4096x1024) ![n, 0] S256x1024.size inb).emb y) = y := by
  have hy0 : (y 0).val < 256 := (y 0).isLt
  have e0 : ((Rect.unit (s := S4096x1024) ![n, 0] S256x1024.size inb).emb y 0).val = n + 1 * (y 0).val := rfl
  have e1 : ((Rect.unit (s := S4096x1024) ![n, 0] S256x1024.size inb).emb y 1).val = 0 + 1 * (y 1).val := rfl
  constructor
  · refine Prod.ext (Fin.ext ?_) ?_
    · show ((Rect.unit (s := S4096x1024) ![n, 0] S256x1024.size inb).emb y 0).val / 512 = d.val
      rw [e0, hn]; cases b
      · simp only [Bool.false_eq_true, if_false]; omega
      · simp only [if_true]; omega
    · show decide (((Rect.unit (s := S4096x1024) ![n, 0] S256x1024.size inb).emb y 0).val % 512 < 256) = b
      rw [e0, hn]; cases b
      · simp only [Bool.false_eq_true, if_false]; exact decide_eq_false (by omega)
      · simp only [if_true]; exact decide_eq_true (by omega)
  · funext a
    apply Fin.ext
    fin_cases a
    · show ((Rect.unit (s := S4096x1024) ![n, 0] S256x1024.size inb).emb y 0).val % 256 = (y 0).val
      rw [e0, hn]; cases b
      · simp only [Bool.false_eq_true, if_false]; omega
      · simp only [if_true]; omega
    · show ((Rect.unit (s := S4096x1024) ![n, 0] S256x1024.size inb).emb y 1).val = (y 1).val
      rw [e1]; omega

theorem pair_read (c : Dev nD) (b : Bool) (s : Fin 7) :
    ((bufD b).access (pairR s.succ s.succ.isLt)).read (Elt F) (gatB xs c b) = chunk xs b (org b (s.val + 1) c) := by
  funext i
  have e : (pairR s.succ s.succ.isLt).emb i = (fun | 0 => s.succ | 1 => (i 1 : Fin 2) | 2 => (i 2 : Fin 128) | 3 => (i 3 : Fin 4096) : S8x2x128x4096.Idx) := by
    have h0 : (i 0).val < 1 := (i 0).isLt
    funext a
    apply Fin.ext
    fin_cases a
    · show s.val + 1 + 1 * (i 0).val = s.val + 1; omega
    · show 0 + 1 * (i 1).val = (i 1).val; omega
    · show 0 + 1 * (i 2).val = (i 2).val; omega
    · show 0 + 1 * (i 3).val = (i 3).val; omega
  show (bufD b).view.read (Elt F) (gatB xs c b) ((pairR s.succ s.succ.isLt).emb i) = _
  rw [gatB_read, e]
  rfl

theorem org_ne : ∀ (b : Bool) (s : Fin 7) (c : Dev nD), org b (s.val + 1) c ≠ c := by decide

theorem gemm_mem (b : Bool) (d : Dev nD) (o : Fin 2 → ℕ) (ho : o = ![512 * d.val + (if b then 0 else 256), 0]) (inb)
    (i : S4096x1024.Idx) (h : blkOf i = (d, b)) : i ∈ (Rect.unit (s := S4096x1024) o S256x1024.size inb).set := by
  subst ho; exact mem_blk d b _ rfl inb i h

theorem gemm_value (c : Dev nD) (b : Bool) (s : Fin 7) (o : Fin 2 → ℕ)
    (ho : o = ![512 * (org b (s.val + 1) c).val + (if b then 0 else 256), 0]) (inb) (y : S256x1024.Idx) :
    payB b (k0_pay2 sx sw) (chunk xs b (org b (s.val + 1) c)) (k0_pay1 w) y
      = target xs w sx sw c ((Rect.unit (s := S4096x1024) o S256x1024.size inb).emb y) := by
  subst ho
  obtain ⟨h1, h2⟩ := blkOf_emb (org b (s.val + 1) c) b _ rfl inb y
  unfold target
  rw [h1, h2, if_neg (org_ne b s c)]

/-- One product: the block of the device the table names. -/
theorem wp_gemm (c : Dev nD) (b : Bool) (s : Fin 7) (P : Dev nD × Bool → Prop)
    (off : BitVec 32 → Fin 2 → ℕ) (chk : BitVec 32 → Prop) (dec : ∀ v, Decidable (chk v))
    (inb : ∀ v, chk v → ∀ a, off v a + S256x1024.size a ≤ S4096x1024.size a)
    (hchk : ∀ d : Dev nD, chk (BitVec.ofNat 32 d.val))
    (hoff : ∀ d : Dev nD, off (BitVec.ofNat 32 d.val) = ![512 * d.val + (if b then 0 else 256), 0])
    (T : Memref sig .tc .smem S7 .i32) (ft : Buf (Elt F) (T.view.loc (c : Thread nD τ)))
    (hT : T.view.read (Elt F) ft (ix1 s) = BitVec.ofNat 32 (org b (s.val + 1) c).val)
    (qT : PosShare TreeShare) (Q : PUnit → sProp 𝕄) :
    iprop((T.view.loc (c : Thread nD τ) ↦{qT} ft) ∗ slotP c b s.succ 0 fullShare.right (gatB xs c b)
        ∗ slotP c b s.succ 1 fullShare.right (gatB xs c b) ∗ pt c cc0_scratch2 fullShare (k0_pay1 w)
        ∗ outP xs w sx sw c P
        ∗ (((T.view.loc (c : Thread nD τ) ↦{qT} ft) ∗ slotP c b s.succ 0 fullShare.right (gatB xs c b)
            ∗ slotP c b s.succ 1 fullShare.right (gatB xs c b) ∗ pt c cc0_scratch2 fullShare (k0_pay1 w)
            ∗ outP xs w sx sw c (fun k => P k ∨ k = (org b (s.val + 1) c, b))) -∗ Q ⟨⟩))
      ⊢ wpc c (gemmP (F := F) off chk dec inb (payB b) T (bufD b) (Memref.whole cc0_scratch2) outM (k0_pay2 sx sw) s s.isLt) Q := by
  unfold gemmP
  have hsub : ((bufD b).access (pairR s.succ s.succ.isLt)).set ⊆ slotSet b s.succ 0 ∪ slotSet b s.succ 1 := by
    rw [pair_set]
  have hdis : Disjoint (slotSet b s.succ 0) (slotSet b s.succ 1) := slots_disjoint b (by simp)
  iintro ⟨HT, H0, H1, Hw, Ho, Hk⟩
  iapply (wpc_bind c)
  iapply (wp_word c T qT ft s)
  isplitl [HT]; · iexact HT
  iintro HT
  rw [hT]
  iapply (wp_assume 𝒱₀ (c : Thread nD τ) none Set.univ (hchk (org b (s.val + 1) c)))
  ihave Hp := (pointsTo_union (ℓ := (bufD b).view.loc (c : Thread nD τ)) (q := fullShare.right) (f := gatB xs c b) hdis).2 $$ [H0 H1]
  · isplitl [H0]; · iexact H0
    iexact H1
  iapply (wp_load_rect 𝒱₀ (c : Thread nD τ) none Set.univ (m := bufD b) (r := pairR s.succ s.succ.isLt) hsub) $$ [Hp]
  · iexact Hp
  iintro Hp
  rw [pair_read]
  ihave Hp := (pointsTo_union (ℓ := (bufD b).view.loc (c : Thread nD τ)) (q := fullShare.right) (f := gatB xs c b) hdis).1 $$ Hp
  icases Hp with ⟨H0, H1⟩
  iapply (wp_load 𝒱₀ (c : Thread nD τ) none Set.univ (m := Memref.whole cc0_scratch2) (Finset.subset_univ _)) $$ [Hw]
  · iexact Hw
  iintro Hw
  rw [read_wb]
  iapply (wp_block xs w sx sw c P (fun k => P k ∨ k = (org b (s.val + 1) c, b))
    (Rect.unit (s := S4096x1024) (off (BitVec.ofNat 32 (org b (s.val + 1) c).val)) S256x1024.size
      (inb _ (hchk (org b (s.val + 1) c)))) (payB b (k0_pay2 sx sw) (chunk xs b (org b (s.val + 1) c)) (k0_pay1 w)) ?hv ?hP _ _ _ Q)
  case hv => exact gemm_value xs w sx sw c b s _ (hoff _) _
  case hP =>
    intro i hi hr
    rcases hi with hi | hi
    · exact hi
    · exact absurd (gemm_mem b _ _ (hoff _) _ i hi) hr
  isplitl [Ho]; · iexact Ho
  iintro Ho
  iapply Hk
  isplitl [HT]; · iexact HT
  isplitl [H0]; · iexact H0
  isplitl [H1]; · iexact H1
  isplitl [Hw]; · iexact Hw
  iexact Ho

/-- The rows the own block covers. -/
theorem mem_own (d : Dev nD) (o : Fin 2 → ℕ) (ho : o = ![512 * d.val, 0]) (inb) (i : S4096x1024.Idx) (h : (blkOf i).1 = d) :
    i ∈ (Rect.unit (s := S4096x1024) o S512x1024.size inb).set := by
  subst ho
  have h1 : (i 0).val / 512 = d.val := congrArg Fin.val h
  rw [Rect.mem_set_unit]
  intro a
  have hi1 : (i 1).val < 1024 := (i 1).isLt
  fin_cases a
  · show 512 * d.val ≤ (i 0).val ∧ (i 0).val < 512 * d.val + 512
    omega
  · show 0 ≤ (i 1).val ∧ (i 1).val < 0 + 1024
    omega

theorem own_value (c : Dev nD) (o : Fin 2 → ℕ) (ho : o = ![512 * c.val, 0]) (inb) (y : S512x1024.Idx) :
    k0_pay3 sx sw (xs c) (k0_pay1 w) y
      = target xs w sx sw c ((Rect.unit (s := S4096x1024) o S512x1024.size inb).emb y) := by
  subst ho
  have hy0 : (y 0).val < 512 := (y 0).isLt
  have e0 : ((Rect.unit (s := S4096x1024) ![512 * c.val, 0] S512x1024.size inb).emb y 0).val = 512 * c.val + 1 * (y 0).val := rfl
  have hb : (blkOf ((Rect.unit (s := S4096x1024) ![512 * c.val, 0] S512x1024.size inb).emb y)).1 = c := by
    apply Fin.ext
    show ((Rect.unit (s := S4096x1024) ![512 * c.val, 0] S512x1024.size inb).emb y 0).val / 512 = c.val
    rw [e0]; omega
  have hi : ix512 ((Rect.unit (s := S4096x1024) ![512 * c.val, 0] S512x1024.size inb).emb y) = y := by
    funext a
    apply Fin.ext
    fin_cases a
    · show ((Rect.unit (s := S4096x1024) ![512 * c.val, 0] S512x1024.size inb).emb y 0).val % 512 = (y 0).val
      rw [e0]; omega
    · show 0 + 1 * (y 1).val = (y 1).val
      omega
  unfold target
  rw [if_pos hb, hi]

theorem own_chk : ∀ d : Dev nD, k0_chk3 (BitVec.ofNat 32 d.val) := by decide
theorem own_off : ∀ d : Dev nD, k0_off1 (BitVec.ofNat 32 d.val) = ![512 * d.val, 0] := by decide

/-- The weights cast, the scales read, the own block stored. -/
theorem wp_own (c : Dev nD) (ft : Vec F S3 .i32) (f2 f3 : Vec F S1 .f32) (fb : Vec F S4096x1024 .bf16)
    (hT : ft (ix1 2) = BitVec.ofNat 32 c.val) (h2 : f2 (ix1 0) = sx) (h3 : f3 (ix1 0) = sw) (Q : F .f32 → sProp 𝕄) :
    iprop(pt c cc0_stg0_0 fullShare.right (xs c) ∗ pt c cc0_stg1_0 fullShare w ∗ pt c cc0_stg2_0 fullShare f2
        ∗ pt c cc0_stg3_0 fullShare f3 ∗ pt c cc0_stg4_0 fullShare ft ∗ pt c cc0_scratch2 fullShare fb
        ∗ outP xs w sx sw c (fun _ => False)
        ∗ ((pt c cc0_stg0_0 fullShare.right (xs c) ∗ pt c cc0_stg1_0 fullShare w ∗ pt c cc0_stg2_0 fullShare f2
            ∗ pt c cc0_stg3_0 fullShare f3 ∗ pt c cc0_stg4_0 fullShare ft ∗ pt c cc0_scratch2 fullShare (k0_pay1 w)
            ∗ outP xs w sx sw c (fun k => k.1 = c)) -∗ Q (k0_pay2 sx sw)))
      ⊢ wpc c (ownP (F := F) bufX (Memref.whole cc0_stg1_0) (Memref.whole cc0_stg2_0) (Memref.whole cc0_stg3_0)
          (Memref.whole cc0_stg4_0) outM (Memref.whole cc0_scratch2) (Memref.isWhole_whole _)) Q := by
  unfold ownP
  iintro ⟨Hx, Hw, H2, H3, H4, Hb, Ho, Hk⟩
  iapply (wp_load 𝒱₀ (c : Thread nD τ) none Set.univ (m := Memref.whole cc0_stg1_0) (Finset.subset_univ _)) $$ [Hw]
  · iexact Hw
  iintro Hw
  rw [read_w]
  iapply (wp_load 𝒱₀ (c : Thread nD τ) none Set.univ (m := Memref.whole cc0_scratch2) (Finset.subset_univ _)) $$ [Hb]
  · iexact Hb
  iintro Hb
  iapply (wp_store 𝒱₀ (c : Thread nD τ) none Set.univ (m := Memref.whole cc0_scratch2) (Finset.subset_univ _)) $$ [Hb]
  · iexact Hb
  iintro Hb
  rw [write_wb]
  iapply (wpc_skip c)
  iapply (wpc_bind c)
  iapply (wp_word c (Memref.whole cc0_stg2_0) fullShare f2 (0 : Fin 1))
  isplitl [H2]; · iexact H2
  iintro H2
  iapply (wpc_bind c)
  iapply (wp_word c (Memref.whole cc0_stg3_0) fullShare f3 (0 : Fin 1))
  isplitl [H3]; · iexact H3
  iintro H3
  iapply (wpc_bind c)
  iapply (wp_word c (Memref.whole cc0_stg4_0) fullShare ft (2 : Fin 3))
  isplitl [H4]; · iexact H4
  iintro H4
  have e2 : (Memref.whole cc0_stg2_0 : Memref sig .tc .smem S1 .f32).view.read (Elt F) f2 (ix1 0) = sx := h2
  have e3 : (Memref.whole cc0_stg3_0 : Memref sig .tc .smem S1 .f32).view.read (Elt F) f3 (ix1 0) = sw := h3
  have e4 : (Memref.whole cc0_stg4_0 : Memref sig .tc .smem S3 .i32).view.read (Elt F) ft (ix1 2) = BitVec.ofNat 32 c.val := hT
  rw [e2, e3, e4]
  iapply (wp_assume 𝒱₀ (c : Thread nD τ) none Set.univ (own_chk c))
  iapply (wp_load 𝒱₀ (c : Thread nD τ) none Set.univ (m := bufX) (Finset.subset_univ _)) $$ [Hx]
  · iexact Hx
  iintro Hx
  rw [read_x]
  iapply (wp_load 𝒱₀ (c : Thread nD τ) none Set.univ (m := Memref.whole cc0_scratch2) (Finset.subset_univ _)) $$ [Hb]
  · iexact Hb
  iintro Hb
  rw [read_wb]
  iapply (wpc_skip c)
  iapply (wpc_bind c (do
      let _o : Vec F S512x1024 .f32 ← Prog.lift (.load outM (Rect.unit (s := S4096x1024) (k0_off1 (BitVec.ofNat 32 c.val)) S512x1024.size (k0_off1_inb _ (own_chk c))).toLoadRect (View.loadsAt_vmem h_S512x1024))
      Prog.lift (.store outM (Rect.unit (s := S4096x1024) (k0_off1 (BitVec.ofNat 32 c.val)) S512x1024.size (k0_off1_inb _ (own_chk c))) (k0_pay3 sx sw (xs c) (k0_pay1 w)) Finset.univ (View.stores_vmem_bits_univ h_S512x1024 rfl) (.inl rfl)))
    (fun _ => Prog.ret (k0_pay2 sx sw)))
  iapply (wp_block xs w sx sw c (fun _ => False) (fun k => k.1 = c)
    (Rect.unit (s := S4096x1024) (k0_off1 (BitVec.ofNat 32 c.val)) S512x1024.size (k0_off1_inb _ (own_chk c)))
    (k0_pay3 sx sw (xs c) (k0_pay1 w)) (own_value xs w sx sw c _ (own_off c) _)
    (fun i hi hr => absurd (mem_own c _ (own_off c) _ i hi) hr))
  isplitl [Ho]; · iexact Ho
  iintro Ho
  iapply (wpc_ret c)
  iapply Hk
  isplitl [Hx]; · iexact Hx
  isplitl [Hw]; · iexact Hw
  isplitl [H2]; · iexact H2
  isplitl [H3]; · iexact H3
  isplitl [H4]; · iexact H4
  isplitl [Hb]; · iexact Hb
  iexact Ho

end Store

end Cert.KernelIdeal.Run

end
-- ==== Proof.Walk.lean ====
/- The steps of the body put together: a step of both rings with its two products, the last step, the waits for the
   sends, and the handshake before them. The copies are counted off in the order in which the body starts them. -/
module

public import proofs.«01_k».proof.Proof.Compute

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Counting the copies -/

/-- The place of a copy in the order of the body. -/
def rank (p : Chan) : ℕ := 4 * p.2.1.val + 2 * p.2.2.val + (if p.1 then 0 else 1)
theorem rank_inj : ∀ p q : Chan, rank p = rank q → p = q := by
  rintro ⟨b, s, j⟩ ⟨b', s', j'⟩ h
  have hj := j.isLt
  have hj' := j'.isLt
  simp only [rank] at h
  have e : ∀ b : Bool, (if b = true then 0 else 1) < 2 := by decide
  have e1 := e b
  have e2 := e b'
  have h1 : s.val = s'.val := by omega
  have h2 : j.val = j'.val := by omega
  have h3 : (if b = true then 0 else 1) = (if b' = true then 0 else 1) := by omega
  rw [Fin.ext h1, Fin.ext h2]
  cases b <;> cases b' <;> first | rfl | exact absurd h3 (by decide)
theorem rank_lt (p : Chan) : rank p < 28 := by
  obtain ⟨b, s, j⟩ := p
  have := s.isLt
  have := j.isLt
  have e : ∀ b : Bool, (if b = true then 0 else 1) < 2 := by decide
  have := e b
  simp only [rank]; omega

/-- The first `n` copies. -/
def upto (n : ℕ) : Finset Chan := Finset.univ.filter fun p => rank p < n

theorem mem_upto (n : ℕ) (p : Chan) : p ∈ upto n ↔ rank p < n := by
  unfold upto; rw [Finset.mem_filter]; exact ⟨fun h => h.2, fun h => ⟨Finset.mem_univ p, h⟩⟩
theorem upto_zero : upto 0 = ∅ := Finset.eq_empty_of_forall_notMem fun p h => Nat.not_lt_zero _ ((mem_upto 0 p).mp h)
theorem upto_all : upto 28 = Finset.univ := Finset.eq_univ_of_forall fun p => (mem_upto 28 p).mpr (rank_lt p)
theorem upto_next (p : Chan) : insert p (upto (rank p)) = upto (rank p + 1) := by
  ext q
  rw [Finset.mem_insert, mem_upto, mem_upto]
  constructor
  · rintro (rfl | h) <;> omega
  · intro h
    rcases Nat.lt_or_ge (rank q) (rank p) with h' | h'
    · exact .inr h'
    · exact .inl (rank_inj q p (by omega))
theorem notMem_upto (p : Chan) : p ∉ upto (rank p) := fun h => Nat.lt_irrefl _ ((mem_upto _ p).mp h)
theorem rank_next (p : Chan) (h : p.2.1.val < 6) : rank (next p h) = rank p + 4 := by
  simp only [rank, next]; omega
theorem later (p q : Chan) (h : q ∈ (upto (rank p + 4))ᶜ) : p.2.1 < q.2.1 := by
  rw [Finset.mem_compl, mem_upto] at h
  have e : ∀ b : Bool, (if b = true then 0 else 1) < 2 := by decide
  have := e p.1
  have := e q.1
  have := p.2.2.isLt
  have := q.2.2.isLt
  rw [Fin.lt_def]
  simp only [rank] at h
  omega

variable (xs : Dev nD → Vec F S512x4096 .i8)

/-! ## One copy, counted -/

theorem at_start (K : GSem nD τ sig → ℕ) (c : Dev nD) (n m : ℕ) (p : Chan) (hn : rank p = n) (dst : Dev nD)
    (hd : dst = nx p.1 c) (Q : PUnit → sProp 𝕄) :
    iprop(invAll xs K ∗ srcP xs c p fullShare.left ∗ St xs c (upto n) (upto m) ∅
        ∗ (St xs c (upto (n + 1)) (upto m) ∅ -∗ Q ⟨⟩))
      ⊢ wpc c (startB (F := F) dst p) Q := by
  subst hn
  rw [← upto_next]
  exact wp_start xs K c _ _ p (notMem_upto p) dst hd Q

theorem at_relay (K : GSem nD τ sig → ℕ) (c : Dev nD) (n m : ℕ) (p : Chan) (h6 : p.2.1.val < 6) (hm : rank p = m)
    (hn : m + 4 = n) (dst : Dev nD) (hd : dst = nx p.1 c) (Q : PUnit → sProp 𝕄) :
    iprop(invAll xs K ∗ levAts L lv ∗ St xs c (upto n) (upto m) ∅ ∗ (St xs c (upto (n + 1)) (upto (m + 1)) ∅ -∗ Q ⟨⟩))
      ⊢ wpc c (recvB (F := F) p) (fun _ => wpc c (startB (F := F) dst (next p h6)) Q) := by
  subst hn hm
  rw [← upto_next p, ← rank_next p h6, ← upto_next]
  exact wp_relay xs K c _ _ p h6 (notMem_upto p) (notMem_upto _) (fun q hq => later p q (by rwa [rank_next] at hq)) dst hd Q

theorem at_last (K : GSem nD τ sig → ℕ) (c : Dev nD) (m : ℕ) (p : Chan) (h6 : p.2.1 = 6) (hm : rank p = m)
    (Q : PUnit → sProp 𝕄) :
    iprop(invAll xs K ∗ levAts L lv ∗ St xs c (upto 28) (upto m) ∅ ∗ (St xs c (upto 28) (upto (m + 1)) ∅ -∗ Q ⟨⟩))
      ⊢ wpc c (recvB (F := F) p) Q := by
  subst hm
  rw [← upto_next p, upto_all]
  exact wp_last xs K c _ p (notMem_upto p) h6 Q

theorem at_drain (K : GSem nD τ sig → ℕ) (c : Dev nD) (n : ℕ) (p : Chan) (hn : rank p = n) (Q : PUnit → sProp 𝕄) :
    iprop(invAll xs K ∗ St xs c (upto 28) (upto 28) (upto n) ∗ (St xs c (upto 28) (upto 28) (upto (n + 1)) -∗ Q ⟨⟩))
      ⊢ wpc c (drainB (F := F) p) Q := by
  subst hn
  rw [← upto_next p, upto_all]
  exact wp_drain xs K c _ _ p (notMem_upto p) Q

/-! ## The rings' part of a step -/

theorem wpc_bind2 (c : Dev nD) {α β γ : Type} (p : KProg (F := F) α) (q : α → KProg (F := F) β) (k : α → β → KProg (F := F) γ)
    (Q : γ → sProp 𝕄) :
    wpc c p (fun a => wpc c (q a) fun b => wpc c (k a b) Q) ⊢ wpc c (p >>= fun a => q a >>= k a) Q :=
  Entails.of_eq (by
    unfold wpc
    rw [wp_bind]
    congr 1
    funext a
    rw [wp_bind])

/-- The four rings' buffers and semaphores, as the steps of the body take them. -/
abbrev ringB (r l : Dev nD) (s j : ℕ) (hs : s + 1 < 7) (hj : j < 2) : KProg (F := F) PUnit :=
  ringP bufX bufX_whole (bufD true) (bufD_whole true) (bufD false) (bufD_whole false) (sndA true) (rcvA true) (sndA false)
    (rcvA false) r l s j hs hj

theorem wp_ring (K : GSem nD τ sig → ℕ) (c : Dev nD) (r l : Dev nD) (hr : r = nx true c) (hl : l = nx false c)
    (s : ℕ) (hs : s + 1 < 7) (j : Fin 2) (n m n' m' : ℕ) (hm : 4 * s + 2 * j.val = m) (hn : m + 4 = n) (hn' : n + 2 = n')
    (hm' : m + 2 = m') (Q : PUnit → sProp 𝕄) :
    iprop(invAll xs K ∗ levAts L lv ∗ St xs c (upto n) (upto m) ∅ ∗ (St xs c (upto n') (upto m') ∅ -∗ Q ⟨⟩))
      ⊢ wpc c (ringB (F := F) r l s j hs j.isLt) Q := by
  subst hn' hm'
  have h1 := at_relay xs K c n m (true, ⟨s, by omega⟩, j) (by show s < 6; omega) (by simp only [rank]; simpa using hm) hn r hr
  have h2 := at_relay xs K c (n + 1) (m + 1) (false, ⟨s, by omega⟩, j) (by show s < 6; omega)
    (by simp only [rank]; simpa using hm) (by omega) l hl
  iintro ⟨#HI, #Hlev, HSt, Hk⟩
  iapply (wpc_bind2 c (recvB (F := F) (true, ⟨s, by omega⟩, j)) (fun _ => startB r (true, ⟨s + 1, hs⟩, j))
    (fun _ _ => do recvB (F := F) (false, ⟨s, by omega⟩, j); startB l (false, ⟨s + 1, hs⟩, j)) Q)
  iapply h1
  isplitr; · iexact HI
  isplitr; · iexact Hlev
  isplitl [HSt]; · iexact HSt
  iintro HSt
  iapply (wpc_bind c)
  iapply h2
  isplitr; · iexact HI
  isplitr; · iexact Hlev
  isplitl [HSt]; · iexact HSt
  iexact Hk

/-! ## The products of a step -/

theorem rcvSt_got (c : Dev nD) (R : Finset Chan) (p : Chan) (hp : p ∈ R) : rcvSt (F := F) xs c R p = got xs c p := by
  unfold rcvSt; rw [if_pos hp]

/-- The two parts of a slot, lent for a product. -/
theorem St_slot (c : Dev nD) (S R D : Finset Chan) (b : Bool) (s : Fin 7) (hR : ∀ j, (b, s, j) ∈ R) :
    St xs c S R D ⊢ iprop(slotP c b s.succ 0 fullShare.right (gatB xs c b) ∗ slotP c b s.succ 1 fullShare.right (gatB xs c b)
      ∗ (slotP c b s.succ 0 fullShare.right (gatB xs c b) -∗ slotP c b s.succ 1 fullShare.right (gatB xs c b)
          -∗ St xs c S R D)) := by
  have h := bigSep_two (F := F) (Φ := rcvSt xs c R) (b, s, 0) (b, s, 1) (by simp)
  rw [rcvSt_got xs c R _ (hR 0), rcvSt_got xs c R _ (hR 1)] at h
  unfold St
  iintro ⟨Hs, Hr, HO⟩
  ihave Hr := h $$ Hr
  unfold got
  icases Hr with ⟨⟨Ha0, H0, Hl0⟩, ⟨Ha1, H1, Hl1⟩, Hback⟩
  isplitl [H0]; · iexact H0
  isplitl [H1]; · iexact H1
  iintro H0 H1
  isplitl [Hs]; · iexact Hs
  isplitr [HO]
  · iapply Hback $$ [Ha0 H0 Hl0] [Ha1 H1 Hl1]
    · isplitl [Ha0]; · iexact Ha0
      isplitl [H0]; · iexact H0
      iexact Hl0
    · isplitl [Ha1]; · iexact Ha1
      isplitl [H1]; · iexact H1
      iexact Hl1
  iexact HO

variable (w : Vec F S4096x1024 .i8) (sx sw : F .f32)

/-- The blocks of the result that are done before step `n`. -/
def Dn (c : Dev nD) (n : ℕ) (k : Dev nD × Bool) : Prop := k.1 = c ∨ ∃ s : Fin 7, s.val < n ∧ k.1 = org k.2 (s.val + 1) c

theorem Dn_all : ∀ (c : Dev nD) (k : Dev nD × Bool), Dn c 7 k := by
  unfold Dn; decide
theorem Dn_zero (c : Dev nD) (k : Dev nD × Bool) (h : Dn c 0 k) : k.1 = c := by
  rcases h with h | ⟨s, hs, -⟩
  · exact h
  · exact absurd hs (Nat.not_lt_zero _)
theorem Dn_succ (c : Dev nD) (s : Fin 7) (k : Dev nD × Bool) (h : Dn c (s.val + 1) k) :
    (Dn c s.val k ∨ k = (org true (s.val + 1) c, true)) ∨ k = (org false (s.val + 1) c, false) := by
  rcases h with h | ⟨t, ht, h⟩
  · exact .inl (.inl (.inl h))
  · rcases Nat.lt_or_ge t.val s.val with h' | h'
    · exact .inl (.inl (.inr ⟨t, h', h⟩))
    · have e : t = s := Fin.ext (by omega)
      subst e
      obtain ⟨d, b⟩ := k
      cases b
      · exact .inr (Prod.ext h rfl)
      · exact .inl (.inr (Prod.ext h rfl))

/-- What the products use: both tables, the weights, and the result on the blocks done. -/
def Work (c : Dev nD) (f5 f6 : Vec F S7 .i32) (n : ℕ) : sProp 𝕄 :=
  iprop(pt c cc0_stg5_0 fullShare f5 ∗ pt c cc0_stg6_0 fullShare f6 ∗ pt c cc0_scratch2 fullShare (k0_pay1 w)
    ∗ outP xs w sx sw c (Dn c n))

/-- What the two tables say. -/
def Tables (c : Dev nD) (f5 f6 : Vec F S7 .i32) : Prop :=
  (∀ s : Fin 7, f5 (ix1 s) = BitVec.ofNat 32 (org true (s.val + 1) c).val)
    ∧ ∀ s : Fin 7, f6 (ix1 s) = BitVec.ofNat 32 (org false (s.val + 1) c).val

theorem chk4 : ∀ d : Dev nD, k0_chk4 (BitVec.ofNat 32 d.val) := by decide
theorem chk5 : ∀ d : Dev nD, k0_chk5 (BitVec.ofNat 32 d.val) := by decide
theorem off2 : ∀ d : Dev nD, k0_off2 (BitVec.ofNat 32 d.val) = ![512 * d.val + (if true then 0 else 256), 0] := by decide
theorem off3 : ∀ d : Dev nD, k0_off3 (BitVec.ofNat 32 d.val) = ![512 * d.val + (if false then 0 else 256), 0] := by decide

abbrev gemmsB (sc : F .f32) (s : ℕ) (hs : s < 7) : KProg (F := F) PUnit :=
  gemmsP (Memref.whole cc0_stg5_0) (Memref.whole cc0_stg6_0) outM (bufD true) (bufD false) (Memref.whole cc0_scratch2) sc s hs

theorem wp_gemms (c : Dev nD) (f5 f6 : Vec F S7 .i32) (hT : Tables c f5 f6) (s : Fin 7) (n m : ℕ)
    (hm : 4 * s.val + 4 ≤ m) (Q : PUnit → sProp 𝕄) :
    iprop(St xs c (upto n) (upto m) ∅ ∗ Work xs w sx sw c f5 f6 s.val
        ∗ ((St xs c (upto n) (upto m) ∅ ∗ Work xs w sx sw c f5 f6 (s.val + 1)) -∗ Q ⟨⟩))
      ⊢ wpc c (gemmsB (F := F) (k0_pay2 sx sw) s s.isLt) Q := by
  have hR : ∀ (b : Bool) (j : Fin 2), (b, s, j) ∈ upto m := fun b j => by
    have e : (if b = true then 0 else 1) < 2 := by cases b <;> decide
    have := j.isLt
    rw [mem_upto]; simp only [rank]; omega
  unfold Work
  iintro ⟨HSt, ⟨H5, H6, Hw, Ho⟩, Hk⟩
  ihave HSt := (St_slot xs c (upto n) (upto m) ∅ true s (hR true)) $$ HSt
  icases HSt with ⟨Ha, Hb, Hback⟩
  iapply (wpc_bind c)
  iapply (wp_gemm xs w sx sw c true s (Dn c s.val) k0_off2 k0_chk4 k0_chk4.dec k0_off2_inb chk4 off2
    (Memref.whole cc0_stg5_0) f5 (hT.1 s) fullShare)
  isplitl [H5]; · iexact H5
  isplitl [Ha]; · iexact Ha
  isplitl [Hb]; · iexact Hb
  isplitl [Hw]; · iexact Hw
  isplitl [Ho]; · iexact Ho
  iintro ⟨H5, Ha, Hb, Hw, Ho⟩
  ihave HSt := Hback $$ Ha Hb
  ihave HSt := (St_slot xs c (upto n) (upto m) ∅ false s (hR false)) $$ HSt
  icases HSt with ⟨Ha, Hb, Hback⟩
  iapply (wp_gemm xs w sx sw c false s _ k0_off3 k0_chk5 k0_chk5.dec k0_off3_inb chk5 off3
    (Memref.whole cc0_stg6_0) f6 (hT.2 s) fullShare)
  isplitl [H6]; · iexact H6
  isplitl [Ha]; · iexact Ha
  isplitl [Hb]; · iexact Hb
  isplitl [Hw]; · iexact Hw
  isplitl [Ho]; · iexact Ho
  iintro ⟨H6, Ha, Hb, Hw, Ho⟩
  iapply Hk
  isplitl [Ha Hb Hback]; · iapply Hback $$ Ha Hb
  isplitl [H5]; · iexact H5
  isplitl [H6]; · iexact H6
  isplitl [Hw]; · iexact Hw
  iapply (outP_mono xs w sx sw c (Dn_succ c s)); iexact Ho

/-! ## A step, the last step, the waits for the sends -/

abbrev stepB (r l : Dev nD) (sc : F .f32) (s : ℕ) (hs : s + 1 < 7) : KProg (F := F) PUnit :=
  stepP bufX bufX_whole (Memref.whole cc0_stg5_0) (Memref.whole cc0_stg6_0) outM (bufD true) (bufD_whole true) (bufD false)
    (bufD_whole false) (Memref.whole cc0_scratch2) (sndA true) (rcvA true) (sndA false) (rcvA false) r l sc s hs

theorem wp_step (K : GSem nD τ sig → ℕ) (c : Dev nD) (r l : Dev nD) (hr : r = nx true c) (hl : l = nx false c)
    (f5 f6 : Vec F S7 .i32) (hT : Tables c f5 f6) (s : ℕ) (hs : s + 1 < 7) (n m : ℕ) (hm : 4 * s = m) (hn : m + 4 = n)
    (Q : PUnit → sProp 𝕄) :
    iprop(invAll xs K ∗ levAts L lv ∗ St xs c (upto n) (upto m) ∅ ∗ Work xs w sx sw c f5 f6 s
        ∗ ((St xs c (upto (n + 4)) (upto n) ∅ ∗ Work xs w sx sw c f5 f6 (s + 1)) -∗ Q ⟨⟩))
      ⊢ wpc c (stepB (F := F) r l (k0_pay2 sx sw) s hs) Q := by
  iintro ⟨#HI, #Hlev, HSt, HW, Hk⟩
  iapply (wpc_bind c (ringB (F := F) r l s 0 hs (by omega)))
  iapply (wp_ring xs K c r l hr hl s hs 0 n m (n + 2) (m + 2) (by simpa using hm) hn rfl rfl)
  isplitr; · iexact HI
  isplitr; · iexact Hlev
  isplitl [HSt]; · iexact HSt
  iintro HSt
  iapply (wpc_bind c (ringB (F := F) r l s 1 hs (1 : Fin 2).isLt))
  iapply (wp_ring xs K c r l hr hl s hs 1 (n + 2) (m + 2) (n + 4) n (by show 4 * s + 2 * 1 = m + 2; omega) (by omega) rfl (by omega))
  isplitr; · iexact HI
  isplitr; · iexact Hlev
  isplitl [HSt]; · iexact HSt
  iintro HSt
  iapply (wp_gemms xs w sx sw c f5 f6 hT ⟨s, by omega⟩ (n + 4) n (by show 4 * s + 4 ≤ n; omega) Q)
  isplitl [HSt]; · iexact HSt
  isplitl [HW]; · iexact HW
  iexact Hk

abbrev lastB (sc : F .f32) : KProg (F := F) PUnit :=
  lastP bufX bufX_whole (Memref.whole cc0_stg5_0) (Memref.whole cc0_stg6_0) outM (bufD true) (bufD_whole true) (bufD false)
    (bufD_whole false) (Memref.whole cc0_scratch2) (rcvA true) (rcvA false) sc

theorem wp_lastStep (K : GSem nD τ sig → ℕ) (c : Dev nD) (f5 f6 : Vec F S7 .i32) (hT : Tables c f5 f6) (Q : PUnit → sProp 𝕄) :
    iprop(invAll xs K ∗ levAts L lv ∗ St xs c (upto 28) (upto 24) ∅ ∗ Work xs w sx sw c f5 f6 6
        ∗ ((St xs c (upto 28) (upto 28) ∅ ∗ Work xs w sx sw c f5 f6 7) -∗ Q ⟨⟩))
      ⊢ wpc c (lastB (F := F) (k0_pay2 sx sw)) Q := by
  iintro ⟨#HI, #Hlev, HSt, HW, Hk⟩
  iapply (wpc_bind c (recvB (F := F) (true, 6, 0)))
  iapply (at_last xs K c 24 (true, 6, 0) rfl rfl)
  isplitr; · iexact HI
  isplitr; · iexact Hlev
  isplitl [HSt]; · iexact HSt
  iintro HSt
  iapply (wpc_bind c (recvB (F := F) (false, 6, 0)))
  iapply (at_last xs K c 25 (false, 6, 0) rfl rfl)
  isplitr; · iexact HI
  isplitr; · iexact Hlev
  isplitl [HSt]; · iexact HSt
  iintro HSt
  iapply (wpc_bind c (recvB (F := F) (true, 6, 1)))
  iapply (at_last xs K c 26 (true, 6, 1) rfl rfl)
  isplitr; · iexact HI
  isplitr; · iexact Hlev
  isplitl [HSt]; · iexact HSt
  iintro HSt
  iapply (wpc_bind c (recvB (F := F) (false, 6, 1)))
  iapply (at_last xs K c 27 (false, 6, 1) rfl rfl)
  isplitr; · iexact HI
  isplitr; · iexact Hlev
  isplitl [HSt]; · iexact HSt
  iintro HSt
  iapply (wp_gemms xs w sx sw c f5 f6 hT 6 28 28 (by decide) Q)
  isplitl [HSt]; · iexact HSt
  isplitl [HW]; · iexact HW
  iexact Hk

abbrev drainsB (s : ℕ) (hs : s < 7) : KProg (F := F) PUnit :=
  drainsP bufX bufX_whole (bufD true) (bufD_whole true) (bufD false) (bufD_whole false) (sndA true) (sndA false) s hs

theorem wp_drains (K : GSem nD τ sig → ℕ) (c : Dev nD) (s : ℕ) (hs : s < 7) (n : ℕ) (hn : 4 * s = n) (Q : PUnit → sProp 𝕄) :
    iprop(invAll xs K ∗ St xs c (upto 28) (upto 28) (upto n) ∗ (St xs c (upto 28) (upto 28) (upto (n + 4)) -∗ Q ⟨⟩))
      ⊢ wpc c (drainsB (F := F) s hs) Q := by
  iintro ⟨#HI, HSt, Hk⟩
  iapply (wpc_bind c (drainB (F := F) (true, ⟨s, hs⟩, 0)))
  iapply (at_drain xs K c n (true, ⟨s, hs⟩, 0) (by simp only [rank]; simpa using hn))
  isplitr; · iexact HI
  isplitl [HSt]; · iexact HSt
  iintro HSt
  iapply (wpc_bind c (drainB (F := F) (false, ⟨s, hs⟩, 0)))
  iapply (at_drain xs K c (n + 1) (false, ⟨s, hs⟩, 0) (by simp only [rank]; simpa using hn))
  isplitr; · iexact HI
  isplitl [HSt]; · iexact HSt
  iintro HSt
  iapply (wpc_bind c (drainB (F := F) (true, ⟨s, hs⟩, 1)))
  iapply (at_drain xs K c (n + 2) (true, ⟨s, hs⟩, 1) (by simp only [rank]; simpa using hn))
  isplitr; · iexact HI
  isplitl [HSt]; · iexact HSt
  iintro HSt
  iapply (at_drain xs K c (n + 3) (false, ⟨s, hs⟩, 1) (by simp only [rank]; simpa using hn))
  isplitr; · iexact HI
  isplitl [HSt]; · iexact HSt
  iexact Hk

abbrev firstB (r l : Dev nD) : KProg (F := F) PUnit :=
  firstP bufX bufX_whole (bufD true) (bufD_whole true) (bufD false) (bufD_whole false) (sndA true) (rcvA true) (sndA false)
    (rcvA false) r l

theorem wp_first (K : GSem nD τ sig → ℕ) (c : Dev nD) (r l : Dev nD) (hr : r = nx true c) (hl : l = nx false c) (Q : PUnit → sProp 𝕄) :
    iprop(invAll xs K ∗ srcP xs c (true, 0, 0) fullShare.left ∗ srcP xs c (false, 0, 0) fullShare.left
        ∗ srcP xs c (true, 0, 1) fullShare.left ∗ srcP xs c (false, 0, 1) fullShare.left ∗ St xs c (upto 0) (upto 0) ∅
        ∗ (St xs c (upto 4) (upto 0) ∅ -∗ Q ⟨⟩))
      ⊢ wpc c (firstB (F := F) r l) Q := by
  iintro ⟨#HI, H1, H2, H3, H4, HSt, Hk⟩
  iapply (wpc_bind c (startB (F := F) r (true, 0, 0)))
  iapply (at_start xs K c 0 0 (true, 0, 0) rfl r hr)
  isplitr; · iexact HI
  isplitl [H1]; · iexact H1
  isplitl [HSt]; · iexact HSt
  iintro HSt
  iapply (wpc_bind c (startB (F := F) l (false, 0, 0)))
  iapply (at_start xs K c 1 0 (false, 0, 0) rfl l hl)
  isplitr; · iexact HI
  isplitl [H2]; · iexact H2
  isplitl [HSt]; · iexact HSt
  iintro HSt
  iapply (wpc_bind c (startB (F := F) r (true, 0, 1)))
  iapply (at_start xs K c 2 0 (true, 0, 1) rfl r hr)
  isplitr; · iexact HI
  isplitl [H3]; · iexact H3
  isplitl [HSt]; · iexact HSt
  iintro HSt
  iapply (at_start xs K c 3 0 (false, 0, 1) rfl l hl)
  isplitr; · iexact HI
  isplitl [H4]; · iexact H4
  isplitl [HSt]; · iexact HSt
  iexact Hk

/-! ## The handshake -/

theorem amount_bar (c : Dev nD) (u : Bool) : (ringRd (F := F) xs).amount (barCell c) 0 u = 1 := rfl

theorem pre_chk1 : ∀ d : Dev nD, k0_chk1 (BitVec.ofNat 32 d.val) := by decide
theorem pre_chk2 : ∀ d : Dev nD, k0_chk2 (BitVec.ofNat 32 d.val) := by decide
theorem dev1_word : ∀ d : Dev nD, k0_dev1 (BitVec.ofNat 32 d.val) = d.val := by decide
theorem dev2_word : ∀ d : Dev nD, k0_dev2 (BitVec.ofNat 32 d.val) = d.val := by decide

theorem wp_shake (K : GSem nD τ sig → ℕ) (c : Dev nD) (dl dr : Dev nD) (hl : dl = nx false c) (hr : dr = nx true c)
    (W : Waits sig Unit) {α : Type} (x : α) (Q : α → sProp 𝕄) :
    iprop(invAll xs K ∗ levAts L lv ∗ owes (c : Thread nD τ) (O₀ c) W
        ∗ (dutyTok ER (barCell (nx false c)) 0 true ∗ reached ER (barCell (nx false c)) 0 ∗ barPay (F := F) (nx false c) true)
        ∗ (dutyTok ER (barCell (nx true c)) 0 false ∗ reached ER (barCell (nx true c)) 0 ∗ barPay (F := F) (nx true c) false)
        ∗ cred (tallyAt (barCell c) () 2) ∗ atPos ER (barCell c) 0 ∅ 0
        ∗ (((∃ W, owes (c : Thread nD τ) (Ow c Finset.univ) W) ∗ atPos ER (barCell c) (0 + 1) ∅ 0
            ∗ bigSep Finset.univ (fun b => barPay (F := F) c b)) -∗ Q x))
      ⊢ wpc c (do
          semSignalWord dl barS 1#32
          semSignalWord dr barS 1#32
          semWaitWord barS 2#32
          pure x : KProg (F := F) α) Q := by
  subst hl hr
  iintro ⟨#HI, #Hlev, HO, ⟨HtL, #HrL, HpL⟩, ⟨HtR, #HrR, HpR⟩, Hc, Hat, Hk⟩
  iapply (Rounds.wp_signal 𝒱₀ ER (ringRd xs) (c : Thread nD τ) none (dst := (nx false c : Thread nD τ)) (sem := barS) (r := 0) (d := true)
      (κ := K (barCell (nx false c))) (by rw [duties_bar]; exact Finset.mem_univ _) (amount_bar xs (nx false c) true) ()
      (Ow c Finset.univ + tallyAt (barCell (nx true c)) () 1) rfl) $$ [HO HtL HpL]
  · isplitr; · iapply (inv_bar xs K (nx false c)); iexact HI
    isplitl [HO]; · iexact HO
    isplitl [HtL]; · iexact HtL
    isplitl [HpL]; · rw [payload_bar]; iexact HpL
    iexact HrL
  iintro HO
  iapply (Rounds.wp_signal 𝒱₀ ER (ringRd xs) (c : Thread nD τ) none (dst := (nx true c : Thread nD τ)) (sem := barS) (r := 0) (d := false)
      (κ := K (barCell (nx true c))) (by rw [duties_bar]; exact Finset.mem_univ _) (amount_bar xs (nx true c) false) ()
      (Ow c Finset.univ) rfl) $$ [HO HtR HpR]
  · isplitr; · iapply (inv_bar xs K (nx true c)); iexact HI
    isplitl [HO]; · iexact HO
    isplitl [HtR]; · iexact HtR
    isplitl [HpR]; · rw [payload_bar]; iexact HpR
    iexact HrR
  iintro HO
  iapply (Rounds.wp_wait_rest_token 𝒱₀ ER (ringRd xs) (c : Thread nD τ) none (κ := K (barCell c))
      (wpE_semWait_eq 𝒱₀ (c : Thread nD τ) none Set.univ) (Set.mem_univ _) () (O := Ow c Finset.univ) (W := W) (R := 0) (m := 0) (T := ∅)
      ((Nat.zero_add 2).trans (expect_bar xs c).symm)) $$ [Hc HO Hat]
  · isplitr; · iapply (inv_bar xs K c); iexact HI
    isplitl [Hc]; · iexact Hc
    isplitl [HO]; · iexact HO
    isplitr; · iapply (mayWait_bar c Finset.univ); iexact Hlev
    iexact Hat
  iintro ⟨HO, Hat, -, Hpay⟩
  ihave Hp := (Entails.of_eq (rest_bar xs c)) $$ Hpay
  iapply (wpc_ret c)
  iapply Hk
  isplitl [HO]; · iexists _; iexact HO
  isplitl [Hat]; · iexact Hat
  iexact Hp

theorem wp_pre (K : GSem nD τ sig → ℕ) (c : Dev nD) (ft : Vec F S3 .i32) (h0 : ft (ix1 0) = BitVec.ofNat 32 (nx true c).val)
    (h1 : ft (ix1 1) = BitVec.ofNat 32 (nx false c).val) (W : Waits sig Unit) (Q : _ → sProp 𝕄) :
    iprop(invAll xs K ∗ levAts L lv ∗ pt c cc0_stg4_0 fullShare ft ∗ owes (c : Thread nD τ) (O₀ c) W
        ∗ (dutyTok ER (barCell (nx false c)) 0 true ∗ reached ER (barCell (nx false c)) 0 ∗ barPay (F := F) (nx false c) true)
        ∗ (dutyTok ER (barCell (nx true c)) 0 false ∗ reached ER (barCell (nx true c)) 0 ∗ barPay (F := F) (nx true c) false)
        ∗ cred (tallyAt (barCell c) () 2) ∗ atPos ER (barCell c) 0 ∅ 0
        ∗ ((pt c cc0_stg4_0 fullShare ft ∗ (∃ W, owes (c : Thread nD τ) (Ow c Finset.univ) W) ∗ atPos ER (barCell c) (0 + 1) ∅ 0
            ∗ bigSep Finset.univ (fun b => barPay (F := F) c b))
          -∗ Q ⟨BitVec.ofNat 32 (nx true c).val, pre_chk2 (nx true c), BitVec.ofNat 32 (nx false c).val, pre_chk1 (nx false c)⟩))
      ⊢ wpc c (preP (F := F) (Memref.whole cc0_stg4_0)) Q := by
  have e0 : (Memref.whole cc0_stg4_0 : Memref sig .tc .smem S3 .i32).view.read (Elt F) ft (ix1 0) = BitVec.ofNat 32 (nx true c).val := h0
  have e1 : (Memref.whole cc0_stg4_0 : Memref sig .tc .smem S3 .i32).view.read (Elt F) ft (ix1 1) = BitVec.ofNat 32 (nx false c).val := h1
  unfold preP
  iintro ⟨#HI, #Hlev, Ht, HO, ⟨HtL, #HrL, HpL⟩, ⟨HtR, #HrR, HpR⟩, Hc, Hat, Hk⟩
  iapply (wpc_bind c)
  iapply (wp_word c (Memref.whole cc0_stg4_0) fullShare ft (0 : Fin 3))
  isplitl [Ht]; · iexact Ht
  iintro Ht
  rw [e0]
  iapply (wp_assume 𝒱₀ (c : Thread nD τ) none Set.univ (pre_chk2 (nx true c)))
  iapply (wpc_skip c)
  iapply (wpc_bind c)
  iapply (wp_word c (Memref.whole cc0_stg4_0) fullShare ft (1 : Fin 3))
  isplitl [Ht]; · iexact Ht
  iintro Ht
  rw [e1]
  iapply (wp_assume 𝒱₀ (c : Thread nD τ) none Set.univ (pre_chk1 (nx false c)))
  iapply (wpc_skip c)
  iapply (wp_shake xs K c _ _ (Fin.ext (dev1_word (nx false c))) (Fin.ext (dev2_word (nx true c))) W _ Q)
  isplitr; · iexact HI
  isplitr; · iexact Hlev
  isplitl [HO]; · iexact HO
  isplitl [HtL HpL]
  · isplitl [HtL]; · iexact HtL
    isplitr; · iexact HrL
    iexact HpL
  isplitl [HtR HpR]
  · isplitl [HtR]; · iexact HtR
    isplitr; · iexact HrR
    iexact HpR
  isplitl [Hc]; · iexact Hc
  isplitl [Hat]; · iexact Hat
  iintro ⟨HO, Hat, Hp⟩
  iapply Hk
  isplitl [Ht]; · iexact Ht
  isplitl [HO]; · iexact HO
  isplitl [Hat]; · iexact Hat
  iexact Hp

end Cert.KernelIdeal.Run

end
-- ==== Proof.Pieces.lean ====
/- What a device brings to the body and takes away from it, taken apart into the pieces of the copies and put
   together again: the gather buffers by slots, the own rows by quarters, the tokens by copies. -/
module

public import proofs.«01_k».proof.Proof.Walk

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S512x4096 .i8)

/-! ## Families -/

theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]; rfl
theorem bigSep_final {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]; rfl
theorem bigSep_bool (Φ : Bool → sProp 𝕄) : bigSep Finset.univ Φ = iprop(Φ true ∗ Φ false) := by
  rw [show (Finset.univ : Finset Bool) = {true, false} by decide, bigSep_insert (by decide), bigSep_singleton]; rfl
theorem bigSep_both (s : Finset (Fin 7)) (Φ Ψ : Fin 7 → sProp 𝕄) :
    bigSep s (fun i => iprop(Φ i ∗ Ψ i)) = iprop(bigSep s Φ ∗ bigSep s Ψ) := bigSep_sep s Φ Ψ

theorem bigSep_turned {ι κ : Type} [Fintype ι] [Fintype κ] (Φ : ι → κ → sProp 𝕄) :
    (bigSep Finset.univ fun i => bigSep Finset.univ fun k => Φ i k) = bigSep Finset.univ fun k => bigSep Finset.univ fun i => Φ i k := by
  rw [← bigSep_univ_prod (fun q : ι × κ => Φ q.1 q.2), bigSep_univ_equiv (Equiv.prodComm κ ι), bigSep_univ_prod]; rfl

/-- A family of copies, by direction and part. -/
theorem bigSep_lanes (Φ : Chan → sProp 𝕄) :
    bigSep Finset.univ Φ = bigSep Finset.univ fun b => bigSep Finset.univ fun j => bigSep Finset.univ fun s => Φ (b, s, j) := by
  rw [bigSep_univ_prod]
  refine bigSep_congr fun b _ => ?_
  rw [bigSep_univ_prod]
  exact bigSep_turned _

/-! ## The gather buffers -/

/-- The gather buffer of direction `b`, whole. -/
def bufP (c : Dev nD) (b : Bool) : sProp 𝕄 :=
  iprop(∃ f : Buf (Elt F) ((bufD b).view.loc (c : Thread nD τ)), (bufD b).view.loc (c : Thread nD τ) ↦{fullShare} f)

def anyP (c : Dev nD) (b : Bool) (t : Fin 8) (j : Fin 2) : sProp 𝕄 := iprop(∃ f, slotP (F := F) c b t j fullShare f)

theorem anyP_intro (c : Dev nD) (b : Bool) (t : Fin 8) (j : Fin 2) (f : Buf (Elt F) ((slotB b t j).view.loc (c : Thread nD τ))) :
    slotP c b t j fullShare f ⊢ anyP (F := F) c b t j := by
  unfold anyP
  iintro H
  iexists f
  iexact H

theorem slots_pair (b : Bool) : ∀ t ∈ (Finset.univ : Finset (Fin 8 × Fin 2)), ∀ t' ∈ (Finset.univ : Finset (Fin 8 × Fin 2)),
    t ≠ t' → Disjoint (slotSet b t.1 t.2) (slotSet b t'.1 t'.2) := fun t _ t' _ h => slots_disjoint b h

theorem bufP_split (c : Dev nD) (b : Bool) :
    bufP (F := F) c b ⊢ bigSep Finset.univ fun j => bigSep Finset.univ fun t => anyP c b t j := by
  unfold bufP
  refine exists_elim fun f => ?_
  rw [← slots_cover b, pointsTo_biUnion _ _ (slots_pair b), bigSep_univ_prod, bigSep_turned]
  refine bigSep_mono fun j _ => bigSep_mono fun t _ => anyP_intro c b t j f

theorem bufP_join (c : Dev nD) (b : Bool) :
    (bigSep Finset.univ fun j => bigSep Finset.univ fun t => anyP (F := F) c b t j) ⊢ bufP c b := by
  rw [← bigSep_turned, ← bigSep_univ_prod (fun q : Fin 8 × Fin 2 => anyP (F := F) c b q.1 q.2)]
  unfold anyP
  refine (bigSep_exists_pi _ _).trans ?_
  refine exists_elim fun fs => ?_
  refine (pointsTo_biUnion_join (ℓ := (bufD b).view.loc (c : Thread nD τ)) (q := fullShare) Finset.univ
    (fun t : Fin 8 × Fin 2 => slotSet b t.1 t.2) fs (fs (0, 0)) (slots_pair b)).trans ?_
  rw [slots_cover b]
  unfold bufP
  iintro ⟨%g, -, H⟩
  iexists g
  iexact H

/-! ## The own rows -/

theorem x_split (c : Dev nD) :
    pt c cc0_stg0_0 fullShare (xs c) ⊣⊢ iprop(pt c cc0_stg0_0 fullShare.right (xs c)
      ∗ bigSep Finset.univ fun b => bigSep Finset.univ fun j => srcP xs c (b, 0, j) fullShare.left) := by
  have e : pt c cc0_stg0_0 fullShare.left (xs c)
      = bigSep Finset.univ fun b => bigSep Finset.univ fun j => srcP xs c (b, 0, j) fullShare.left := by
    show ((c : Thread nD τ).loc cc0_stg0_0 ↦{fullShare.left} xs c) = _
    rw [← quarters_cover, pointsTo_biUnion _ _ (fun t _ t' _ h => quarters_disjoint h), bigSep_univ_prod]
    exact bigSep_congr fun b _ => bigSep_congr fun j _ => by cases b <;> rfl
  rw [← e]
  exact ⟨(pointsTo_share (PosShare.mem_left_op_right fullShare)).1.trans sep_comm.1,
    sep_comm.1.trans (pointsTo_share (PosShare.mem_left_op_right fullShare)).2⟩

/-! ## After the body -/

theorem before_last : ∀ i : Fin 6, ¬ i.castSucc = (6 : Fin 7) := by decide
theorem no_rest : (bigSep Finset.univ fun _ : Fin 6 => (iprop(emp) : sProp 𝕄)) = iprop(emp) := bigSep_emp_const _

/-- One direction, one part: once every copy is received and drained, the slots are whole again. -/
theorem lane_end (c : Dev nD) (b : Bool) (j : Fin 2) :
    iprop((bigSep Finset.univ fun s => done xs c (b, s, j)) ∗ bigSep Finset.univ fun s => got xs c (b, s, j))
      ⊢ iprop((bigSep Finset.univ fun s => atPos ER (sndCell c (b, s, j)) (0 + 1) ∅ 0)
        ∗ (bigSep Finset.univ fun s => atPos ER (rcvCell c (b, s, j)) (0 + 1) ∅ 0)
        ∗ srcP xs c (b, 0, j) fullShare.left
        ∗ bigSep Finset.univ fun s : Fin 7 => slotP c b s.succ j fullShare (gatB xs c b)) := by
  have e1 : (bigSep Finset.univ fun s => done xs c (b, s, j))
      = iprop((bigSep Finset.univ fun s => atPos ER (sndCell c (b, s, j)) (0 + 1) ∅ 0)
        ∗ srcP xs c (b, 0, j) fullShare.left ∗ bigSep Finset.univ fun i : Fin 6 => srcP xs c (b, i.succ, j) fullShare.left) := by
    unfold done
    rw [bigSep_both, ← bigSep_first (fun s => srcP xs c (b, s, j) fullShare.left)]
  have e2 : (bigSep Finset.univ fun s => got xs c (b, s, j))
      = iprop((bigSep Finset.univ fun s => atPos ER (rcvCell c (b, s, j)) (0 + 1) ∅ 0)
        ∗ (bigSep Finset.univ fun s : Fin 7 => slotP c b s.succ j fullShare.right (gatB xs c b))
        ∗ slotP c b (Fin.last 6).succ j fullShare.left (gatB xs c b) ∗ iprop(emp)) := by
    unfold got
    rw [bigSep_both, bigSep_both, bigSep_final (fun s : Fin 7 => if s = 6 then slotP c b s.succ j fullShare.left (gatB xs c b) else iprop(emp)),
      bigSep_congr (s := Finset.univ) (Ψ := fun _ : Fin 6 => iprop(emp)) (fun i _ => if_neg (before_last i)), no_rest]
    rfl
  have e3 : (bigSep Finset.univ fun s : Fin 7 => slotP c b s.succ j fullShare.left (gatB xs c b))
      = iprop(slotP c b (Fin.last 6).succ j fullShare.left (gatB xs c b)
        ∗ bigSep Finset.univ fun i : Fin 6 => srcP xs c (b, i.succ, j) fullShare.left) := by
    rw [bigSep_final]; rfl
  have e4 : (bigSep Finset.univ fun s : Fin 7 => slotP c b s.succ j fullShare (gatB xs c b))
      = iprop((bigSep Finset.univ fun s : Fin 7 => slotP c b s.succ j fullShare.left (gatB xs c b))
        ∗ bigSep Finset.univ fun s : Fin 7 => slotP c b s.succ j fullShare.right (gatB xs c b)) := by
    rw [← bigSep_both]
    exact bigSep_congr fun s _ => equiv_iff.mp ⟨(slot_halves c b s.succ j (gatB xs c b)).1, (slot_halves c b s.succ j (gatB xs c b)).2⟩
  rw [e1, e2, e4, e3]
  iintro ⟨⟨Ha, Hx, Hl⟩, Hb, Hr, H6, -⟩
  isplitl [Ha]; · iexact Ha
  isplitl [Hb]; · iexact Hb
  isplitl [Hx]; · iexact Hx
  isplitr [Hr]
  · isplitl [H6]; · iexact H6
    iexact Hl
  iexact Hr

end Cert.KernelIdeal.Run

end
-- ==== Proof.Body.lean ====
/- The printed body is the sequence of the steps of `Steps`: the two unfold to the same program. -/
module

public import proofs.«01_k».proof.Proof.Steps
import all proofs.«01_k».proof.Proof.Steps

@[expose] public section

set_option synthInstance.maxSize 4096

noncomputable section

namespace Cert.KernelIdeal.Run

open Idealize.ShloMosaic Idealize.SL.Sem
open Cert.KernelIdeal Cert.KernelIdeal.Gen

variable {F : FTy → Type} [FloatOps F]

set_option maxRecDepth 65536 in
set_option maxHeartbeats 4000000 in
/-- The printed body is the sequence of its steps. -/
theorem body_eq (arg0 : Memref sig .tc .vmem S512x4096 .i8) (harg0 : arg0.IsWhole) (arg1 : Memref sig .tc .vmem S4096x1024 .i8) (harg1 : arg1.IsWhole)
    (arg2 : Memref sig .tc .smem S1 .f32) (harg2 : arg2.IsWhole) (arg3 : Memref sig .tc .smem S1 .f32) (harg3 : arg3.IsWhole)
    (arg4 : Memref sig .tc .smem S3 .i32) (harg4 : arg4.IsWhole) (arg5 : Memref sig .tc .smem S7 .i32) (harg5 : arg5.IsWhole)
    (arg6 : Memref sig .tc .smem S7 .i32) (harg6 : arg6.IsWhole) (arg7 : Memref sig .tc .vmem S4096x1024 .f32) (harg7 : arg7.IsWhole)
    (arg8 : Memref sig .tc .vmem S8x2x128x4096 .i8) (harg8 : arg8.IsWhole) (arg9 : Memref sig .tc .vmem S8x2x128x4096 .i8) (harg9 : arg9.IsWhole)
    (arg10 : Memref sig .tc .vmem S4096x1024 .bf16) (harg10 : arg10.IsWhole) (arg11 arg12 arg13 arg14 : DmaSems sig S7x2) :
    cc0_body (F := F) arg0 harg0 arg1 harg1 arg2 harg2 arg3 harg3 arg4 harg4 arg5 harg5 arg6 harg6 arg7 harg7 arg8 harg8 arg9 harg9 arg10 harg10 arg11 arg12 arg13 arg14
      = allP arg0 harg0 arg1 arg2 arg3 arg4 arg5 arg6 arg7 arg8 harg8 arg9 harg9 arg10 harg10 arg11 arg12 arg13 arg14 := by
  rfl

end Cert.KernelIdeal.Run

end
-- ==== Proof.Whole.lean ====
/- The whole body on a symbolic device, from its buffers and tokens to the finished block of the result. -/
module

public import proofs.«01_k».proof.Proof.Pieces
public import proofs.«01_k».proof.Proof.Body

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (xs : Dev nD → Vec F S512x4096 .i8)

/-! ## Before the first copy -/

/-- The tokens of a device's sends. -/
def toksP (c : Dev nD) (p : Chan) : sProp 𝕄 :=
  iprop(dutyTok ER (sndCell c p) 0 true ∗ dutyTok ER (rcvCell (nx p.1 c) p) 0 true
    ∗ reached ER (sndCell c p) 0 ∗ atPos ER (sndCell c p) 0 ∅ 0)
/-- The landing slots a device hands over in direction `b`, and that their cells are ready. -/
def ready (c : Dev nD) (p : Chan) : sProp 𝕄 :=
  iprop(anyP (F := F) c p.1 p.2.1.succ p.2.2 ∗ reached ER (rcvCell c p) 0)

theorem give_pay (c : Dev nD) (b : Bool) :
    iprop((bigSep Finset.univ fun j => bigSep Finset.univ fun s : Fin 7 => anyP (F := F) c b s.succ j)
        ∗ bigSep Finset.univ fun j => bigSep Finset.univ fun s : Fin 7 => reached ER (rcvCell c (b, s, j)) 0)
      ⊢ barPay (F := F) (nx (!b) c) b := by
  have e : barPay (F := F) (nx (!b) c) b = bigSep Finset.univ fun q => ready c (b, q) := by
    unfold barPay ready anyP
    rw [nx_back]
  rw [e, bigSep_univ_prod]
  refine Entails.of_eq ?_
  refine Eq.trans ?_ (bigSep_turned (fun (j : Fin 2) (s : Fin 7) => ready (F := F) c (b, s, j)))
  have e2 : (bigSep Finset.univ fun j => bigSep Finset.univ fun s : Fin 7 => ready (F := F) c (b, s, j))
      = bigSep Finset.univ fun j => iprop((bigSep Finset.univ fun s : Fin 7 => anyP (F := F) c b s.succ j)
        ∗ bigSep Finset.univ fun s : Fin 7 => reached ER (rcvCell c (b, s, j)) 0) :=
    bigSep_congr fun j _ => bigSep_both _ _ _
  rw [e2]
  exact (bigSep_sep _ _ _).symm

theorem pend_intro (c : Dev nD) (p : Chan) : iprop(toksP c p ∗ ready (F := F) (nx p.1 c) p) ⊢ pend c p := by
  unfold toksP ready anyP pend
  iintro ⟨⟨H1, H2, H3, H4⟩, H5, H6⟩
  isplitl [H1]; · iexact H1
  isplitl [H2]; · iexact H2
  isplitl [H5]; · iexact H5
  isplitl [H6]; · iexact H6
  isplitl [H3]; · iexact H3
  iexact H4

theorem snd_start (c : Dev nD) :
    iprop(bigSep Finset.univ (toksP c) ∗ bigSep Finset.univ fun b => barPay (F := F) c b)
      ⊢ bigSep Finset.univ (sndSt (F := F) xs c ∅ ∅) := by
  have e : (bigSep Finset.univ fun b => barPay (F := F) c b) = bigSep Finset.univ fun p : Chan => ready (nx p.1 c) p := by
    rw [bigSep_univ_prod]; rfl
  have e2 : iprop(bigSep Finset.univ (toksP c) ∗ bigSep Finset.univ fun p : Chan => ready (F := F) (nx p.1 c) p)
      = bigSep Finset.univ fun p : Chan => iprop(toksP c p ∗ ready (F := F) (nx p.1 c) p) := (bigSep_sep _ _ _).symm
  rw [e, e2]
  refine bigSep_mono fun p _ => ?_
  have e3 : sndSt (F := F) xs c ∅ ∅ p = pend c p := by
    unfold sndSt; rw [if_neg (Finset.notMem_empty p), if_neg (Finset.notMem_empty p)]
  rw [e3]
  exact pend_intro c p

theorem rcv_start (c : Dev nD) : bigSep Finset.univ (await (F := F) c) = bigSep Finset.univ (rcvSt (F := F) xs c ∅) :=
  bigSep_congr fun p _ => (if_neg (Finset.notMem_empty p)).symm

theorem snd_end (c : Dev nD) : bigSep Finset.univ (sndSt (F := F) xs c (upto 28) (upto 28)) = bigSep Finset.univ (done xs c) :=
  bigSep_congr fun p _ => if_pos (by rw [upto_all]; exact Finset.mem_univ p)
theorem rcv_end (c : Dev nD) : bigSep Finset.univ (rcvSt (F := F) xs c (upto 28)) = bigSep Finset.univ (got xs c) :=
  bigSep_congr fun p _ => if_pos (by rw [upto_all]; exact Finset.mem_univ p)

/-- All copies over: the cells at rest, the own rows back, the slots whole. -/
theorem all_end (c : Dev nD) :
    iprop(bigSep Finset.univ (done xs c) ∗ bigSep Finset.univ (got xs c))
      ⊢ iprop((bigSep Finset.univ fun p => atPos ER (sndCell c p) (0 + 1) ∅ 0)
        ∗ (bigSep Finset.univ fun p => atPos ER (rcvCell c p) (0 + 1) ∅ 0)
        ∗ (bigSep Finset.univ fun b => bigSep Finset.univ fun j => srcP xs c (b, 0, j) fullShare.left)
        ∗ bigSep Finset.univ fun b => bigSep Finset.univ fun j => bigSep Finset.univ fun s : Fin 7 =>
            anyP (F := F) c b s.succ j) := by
  rw [bigSep_lanes, bigSep_lanes, bigSep_lanes, bigSep_lanes]
  have h : ∀ b j, iprop((bigSep Finset.univ fun s => done xs c (b, s, j)) ∗ bigSep Finset.univ fun s => got xs c (b, s, j))
      ⊢ iprop((bigSep Finset.univ fun s => atPos ER (sndCell c (b, s, j)) (0 + 1) ∅ 0)
        ∗ (bigSep Finset.univ fun s => atPos ER (rcvCell c (b, s, j)) (0 + 1) ∅ 0)
        ∗ srcP xs c (b, 0, j) fullShare.left
        ∗ bigSep Finset.univ fun s : Fin 7 => anyP (F := F) c b s.succ j) := fun b j =>
    (lane_end xs c b j).trans (sep_mono_right (sep_mono_right (sep_mono_right
      (bigSep_mono fun s _ => anyP_intro c b s.succ j (gatB xs c b)))))
  have h2 : ∀ b, _ := fun b => bigSep_mono (s := Finset.univ) fun j _ => h b j
  have h3 := bigSep_mono (s := Finset.univ) fun b _ => h2 b
  simp only [bigSep_sep'] at h3
  exact h3

variable (w : Vec F S4096x1024 .i8) (sx sw : F .f32)

/-! ## The run between the barrier and the end -/

/-- The steps after the barrier. -/
def restB (r l : Dev nD) : KProg (F := F) PUnit := do
  firstB (F := F) r l
  let sc ← ownP (F := F) bufX (Memref.whole cc0_stg1_0) (Memref.whole cc0_stg2_0) (Memref.whole cc0_stg3_0)
    (Memref.whole cc0_stg4_0) outM (Memref.whole cc0_scratch2) (Memref.isWhole_whole _)
  stepB (F := F) r l sc 0 (by omega)
  stepB (F := F) r l sc 1 (by omega)
  stepB (F := F) r l sc 2 (by omega)
  stepB (F := F) r l sc 3 (by omega)
  stepB (F := F) r l sc 4 (by omega)
  stepB (F := F) r l sc 5 (by omega)
  lastB (F := F) sc
  drainsB (F := F) 0 (by omega)
  drainsB (F := F) 1 (by omega)
  drainsB (F := F) 2 (by omega)
  drainsB (F := F) 3 (by omega)
  drainsB (F := F) 4 (by omega)
  drainsB (F := F) 5 (by omega)
  drainsB (F := F) 6 (by omega)

/-- The words of a device's tables. -/
def Words (c : Dev nD) (ft : Vec F S3 .i32) (f5 f6 : Vec F S7 .i32) : Prop :=
  ft (ix1 0) = BitVec.ofNat 32 (nx true c).val ∧ ft (ix1 1) = BitVec.ofNat 32 (nx false c).val
    ∧ ft (ix1 2) = BitVec.ofNat 32 c.val ∧ Tables c f5 f6

/-- The buffers that the steps after the barrier read and write. -/
def Bufs (c : Dev nD) (ft : Vec F S3 .i32) (f2 f3 : Vec F S1 .f32) : sProp 𝕄 :=
  iprop(pt c cc0_stg0_0 fullShare.right (xs c) ∗ pt c cc0_stg1_0 fullShare w ∗ pt c cc0_stg2_0 fullShare f2
    ∗ pt c cc0_stg3_0 fullShare f3 ∗ pt c cc0_stg4_0 fullShare ft)

theorem wp_drainAll (K : GSem nD τ sig → ℕ) (c : Dev nD) (Q : PUnit → sProp 𝕄) :
    iprop(invAll xs K ∗ St xs c (upto 28) (upto 28) (upto 0) ∗ (St xs c (upto 28) (upto 28) (upto 28) -∗ Q ⟨⟩))
      ⊢ wpc c (do
          drainsB (F := F) 0 (by omega)
          drainsB (F := F) 1 (by omega)
          drainsB (F := F) 2 (by omega)
          drainsB (F := F) 3 (by omega)
          drainsB (F := F) 4 (by omega)
          drainsB (F := F) 5 (by omega)
          drainsB (F := F) 6 (by omega)) Q := by
  iintro ⟨#HI, HSt, Hk⟩
  iapply (wpc_bind c (drainsB (F := F) 0 _))
  iapply (wp_drains xs K c 0 _ 0 rfl)
  isplitr; · iexact HI
  isplitl [HSt]; · iexact HSt
  iintro HSt
  iapply (wpc_bind c (drainsB (F := F) 1 _))
  iapply (wp_drains xs K c 1 _ 4 rfl)
  isplitr; · iexact HI
  isplitl [HSt]; · iexact HSt
  iintro HSt
  iapply (wpc_bind c (drainsB (F := F) 2 _))
  iapply (wp_drains xs K c 2 _ 8 rfl)
  isplitr; · iexact HI
  isplitl [HSt]; · iexact HSt
  iintro HSt
  iapply (wpc_bind c (drainsB (F := F) 3 _))
  iapply (wp_drains xs K c 3 _ 12 rfl)
  isplitr; · iexact HI
  isplitl [HSt]; · iexact HSt
  iintro HSt
  iapply (wpc_bind c (drainsB (F := F) 4 _))
  iapply (wp_drains xs K c 4 _ 16 rfl)
  isplitr; · iexact HI
  isplitl [HSt]; · iexact HSt
  iintro HSt
  iapply (wpc_bind c (drainsB (F := F) 5 _))
  iapply (wp_drains xs K c 5 _ 20 rfl)
  isplitr; · iexact HI
  isplitl [HSt]; · iexact HSt
  iintro HSt
  iapply (wp_drains xs K c 6 _ 24 rfl)
  isplitr; · iexact HI
  isplitl [HSt]; · iexact HSt
  iexact Hk

theorem wp_rest (K : GSem nD τ sig → ℕ) (c : Dev nD) (r l : Dev nD) (hr : r = nx true c) (hl : l = nx false c)
    (ft : Vec F S3 .i32) (f5 f6 : Vec F S7 .i32) (f2 f3 : Vec F S1 .f32) (fb : Vec F S4096x1024 .bf16)
    (hT : Words c ft f5 f6) (h2 : f2 (ix1 0) = sx) (h3 : f3 (ix1 0) = sw) (Q : PUnit → sProp 𝕄) :
    iprop(invAll xs K ∗ levAts L lv
        ∗ (srcP xs c (true, 0, 0) fullShare.left ∗ srcP xs c (false, 0, 0) fullShare.left
          ∗ srcP xs c (true, 0, 1) fullShare.left ∗ srcP xs c (false, 0, 1) fullShare.left)
        ∗ St xs c (upto 0) (upto 0) ∅
        ∗ Bufs xs w c ft f2 f3 ∗ pt c cc0_scratch2 fullShare fb ∗ pt c cc0_stg5_0 fullShare f5 ∗ pt c cc0_stg6_0 fullShare f6
        ∗ outP xs w sx sw c (fun _ => False)
        ∗ ((St xs c (upto 28) (upto 28) (upto 28) ∗ Bufs xs w c ft f2 f3 ∗ Work xs w sx sw c f5 f6 7) -∗ Q ⟨⟩))
      ⊢ wpc c (restB (F := F) r l) Q := by
  unfold restB Bufs
  iintro ⟨#HI, #Hlev, ⟨H1, H2, H3, H4⟩, HSt, ⟨Hx, Hw, Hsx, Hsw, Ht⟩, Hb, H5, H6, Ho, Hk⟩
  iapply (wpc_bind c (firstB (F := F) r l))
  iapply (wp_first xs K c r l hr hl)
  isplitr; · iexact HI
  isplitl [H1]; · iexact H1
  isplitl [H2]; · iexact H2
  isplitl [H3]; · iexact H3
  isplitl [H4]; · iexact H4
  isplitl [HSt]; · iexact HSt
  iintro HSt
  iapply (wpc_bind c (ownP (F := F) bufX (Memref.whole cc0_stg1_0) (Memref.whole cc0_stg2_0) (Memref.whole cc0_stg3_0)
    (Memref.whole cc0_stg4_0) outM (Memref.whole cc0_scratch2) (Memref.isWhole_whole _)))
  iapply (wp_own xs w sx sw c ft f2 f3 fb hT.2.2.1 h2 h3)
  isplitl [Hx]; · iexact Hx
  isplitl [Hw]; · iexact Hw
  isplitl [Hsx]; · iexact Hsx
  isplitl [Hsw]; · iexact Hsw
  isplitl [Ht]; · iexact Ht
  isplitl [Hb]; · iexact Hb
  isplitl [Ho]; · iexact Ho
  iintro ⟨Hx, Hw, Hsx, Hsw, Ht, Hb, Ho⟩
  ihave HW : Work xs w sx sw c f5 f6 0 $$ [H5 H6 Hb Ho]
  · unfold Work
    isplitl [H5]; · iexact H5
    isplitl [H6]; · iexact H6
    isplitl [Hb]; · iexact Hb
    iapply (outP_mono xs w sx sw c (fun k h => Dn_zero c k h)) $$ Ho
  iapply (wpc_bind c (stepB (F := F) r l (k0_pay2 sx sw) 0 _))
  iapply (wp_step xs w sx sw K c r l hr hl f5 f6 hT.2.2.2 0 _ 4 0 rfl rfl)
  isplitr; · iexact HI
  isplitr; · iexact Hlev
  isplitl [HSt]; · iexact HSt
  isplitl [HW]; · iexact HW
  iintro ⟨HSt, HW⟩
  iapply (wpc_bind c (stepB (F := F) r l (k0_pay2 sx sw) 1 _))
  iapply (wp_step xs w sx sw K c r l hr hl f5 f6 hT.2.2.2 1 _ 8 4 rfl rfl)
  isplitr; · iexact HI
  isplitr; · iexact Hlev
  isplitl [HSt]; · iexact HSt
  isplitl [HW]; · iexact HW
  iintro ⟨HSt, HW⟩
  iapply (wpc_bind c (stepB (F := F) r l (k0_pay2 sx sw) 2 _))
  iapply (wp_step xs w sx sw K c r l hr hl f5 f6 hT.2.2.2 2 _ 12 8 rfl rfl)
  isplitr; · iexact HI
  isplitr; · iexact Hlev
  isplitl [HSt]; · iexact HSt
  isplitl [HW]; · iexact HW
  iintro ⟨HSt, HW⟩
  iapply (wpc_bind c (stepB (F := F) r l (k0_pay2 sx sw) 3 _))
  iapply (wp_step xs w sx sw K c r l hr hl f5 f6 hT.2.2.2 3 _ 16 12 rfl rfl)
  isplitr; · iexact HI
  isplitr; · iexact Hlev
  isplitl [HSt]; · iexact HSt
  isplitl [HW]; · iexact HW
  iintro ⟨HSt, HW⟩
  iapply (wpc_bind c (stepB (F := F) r l (k0_pay2 sx sw) 4 _))
  iapply (wp_step xs w sx sw K c r l hr hl f5 f6 hT.2.2.2 4 _ 20 16 rfl rfl)
  isplitr; · iexact HI
  isplitr; · iexact Hlev
  isplitl [HSt]; · iexact HSt
  isplitl [HW]; · iexact HW
  iintro ⟨HSt, HW⟩
  iapply (wpc_bind c (stepB (F := F) r l (k0_pay2 sx sw) 5 _))
  iapply (wp_step xs w sx sw K c r l hr hl f5 f6 hT.2.2.2 5 _ 24 20 rfl rfl)
  isplitr; · iexact HI
  isplitr; · iexact Hlev
  isplitl [HSt]; · iexact HSt
  isplitl [HW]; · iexact HW
  iintro ⟨HSt, HW⟩
  iapply (wpc_bind c (lastB (F := F) (k0_pay2 sx sw)))
  iapply (wp_lastStep xs w sx sw K c f5 f6 hT.2.2.2)
  isplitr; · iexact HI
  isplitr; · iexact Hlev
  isplitl [HSt]; · iexact HSt
  isplitl [HW]; · iexact HW
  iintro ⟨HSt, HW⟩
  iapply (wp_drainAll xs K c)
  isplitr; · iexact HI
  isplitl [HSt]; · rw [upto_zero]; iexact HSt
  iintro HSt
  iapply Hk
  isplitl [HSt]; · iexact HSt
  isplitl [Hx Hw Hsx Hsw Ht]
  · isplitl [Hx]; · iexact Hx
    isplitl [Hw]; · iexact Hw
    isplitl [Hsx]; · iexact Hsx
    isplitl [Hsw]; · iexact Hsw
    iexact Ht
  iexact HW

/-! ## The whole body -/

/-- What the body needs besides its buffers: the cells' records, and the device's tokens and credit. -/
def ToksIn (c : Dev nD) : sProp 𝕄 :=
  iprop((dutyTok ER (barCell (nx false c)) 0 true ∗ reached ER (barCell (nx false c)) 0)
    ∗ (dutyTok ER (barCell (nx true c)) 0 false ∗ reached ER (barCell (nx true c)) 0)
    ∗ cred (tallyAt (barCell c) () 2) ∗ atPos ER (barCell c) 0 ∅ 0
    ∗ bigSep Finset.univ (toksP (F := F) c) ∗ (bigSep Finset.univ fun p : Chan => reached ER (rcvCell c p) 0)
    ∗ bigSep Finset.univ (await (F := F) c))

/-- The cells at rest after the body. -/
def ToksOut (c : Dev nD) : sProp 𝕄 :=
  iprop(atPos ER (barCell c) (0 + 1) ∅ 0 ∗ (bigSep Finset.univ fun p : Chan => atPos ER (sndCell c p) (0 + 1) ∅ 0)
    ∗ (bigSep Finset.univ fun p : Chan => atPos ER (rcvCell c p) (0 + 1) ∅ 0))

/-- The staged buffers, the operand and the tables. -/
def Ins (c : Dev nD) (ft : Vec F S3 .i32) (f2 f3 : Vec F S1 .f32) (f5 f6 : Vec F S7 .i32) : sProp 𝕄 :=
  iprop(pt c cc0_stg0_0 fullShare (xs c) ∗ pt c cc0_stg1_0 fullShare w ∗ pt c cc0_stg2_0 fullShare f2
    ∗ pt c cc0_stg3_0 fullShare f3 ∗ pt c cc0_stg4_0 fullShare ft ∗ pt c cc0_stg5_0 fullShare f5 ∗ pt c cc0_stg6_0 fullShare f6)

theorem srcs_split (c : Dev nD) :
    (bigSep Finset.univ fun b => bigSep Finset.univ fun j => srcP xs c (b, 0, j) fullShare.left)
      ⊢ iprop(srcP xs c (true, 0, 0) fullShare.left ∗ srcP xs c (false, 0, 0) fullShare.left
          ∗ srcP xs c (true, 0, 1) fullShare.left ∗ srcP xs c (false, 0, 1) fullShare.left) := by
  rw [bigSep_bool, bigSep_fin_two, bigSep_fin_two]
  show iprop((srcP xs c (true, 0, 0) fullShare.left ∗ srcP xs c (true, 0, 1) fullShare.left)
    ∗ srcP xs c (false, 0, 0) fullShare.left ∗ srcP xs c (false, 0, 1) fullShare.left) ⊢ _
  iintro ⟨⟨H1, H2⟩, H3, H4⟩
  isplitl [H1]; · iexact H1
  isplitl [H3]; · iexact H3
  isplitl [H2]; · iexact H2
  iexact H4

/-- A direction's slots: slot 0 of each part, and those that are handed over. -/
theorem slots_apart (c : Dev nD) (b : Bool) :
    (bigSep Finset.univ fun j => bigSep Finset.univ fun t => anyP (F := F) c b t j)
      = iprop((bigSep Finset.univ fun j => anyP (F := F) c b 0 j)
          ∗ bigSep Finset.univ fun j => bigSep Finset.univ fun s : Fin 7 => anyP (F := F) c b s.succ j) := by
  rw [← bigSep_sep']
  exact bigSep_congr fun j _ => bigSep_first _

theorem reached_lanes (c : Dev nD) :
    (bigSep Finset.univ fun p : Chan => (reached ER (rcvCell c p) 0 : sProp 𝕄))
      ⊢ iprop((bigSep Finset.univ fun j => bigSep Finset.univ fun s : Fin 7 => reached ER (rcvCell c (true, s, j)) 0)
          ∗ bigSep Finset.univ fun j => bigSep Finset.univ fun s : Fin 7 => reached ER (rcvCell c (false, s, j)) 0) := by
  rw [bigSep_lanes (F := F), bigSep_bool]

theorem wp_body (K : GSem nD τ sig → ℕ) (c : Dev nD)
    (ft : Vec F S3 .i32) (f5 f6 : Vec F S7 .i32) (f2 f3 : Vec F S1 .f32)
    (hT : Words c ft f5 f6) (h2 : f2 (ix1 0) = sx) (h3 : f3 (ix1 0) = sw) (W : Waits sig Unit) (Q : PUnit → sProp 𝕄) :
    iprop(invAll xs K ∗ levAts L lv ∗ Ins xs w c ft f2 f3 f5 f6
        ∗ outP xs w sx sw c (fun _ => False) ∗ bufP (F := F) c true ∗ bufP (F := F) c false
        ∗ (∃ fb, pt c cc0_scratch2 fullShare fb)
        ∗ owes (c : Thread nD τ) (O₀ c) W ∗ ToksIn (F := F) c
        ∗ ((Ins xs w c ft f2 f3 f5 f6 ∗ pt c cc0_stg7_0 fullShare (target xs w sx sw c) ∗ bufP (F := F) c true ∗ bufP (F := F) c false
            ∗ (∃ fb, pt c cc0_scratch2 fullShare fb) ∗ (∃ W, owes (c : Thread nD τ) 0 W) ∗ ToksOut (F := F) c) -∗ Q ⟨⟩))
      ⊢ wpc c (allP (F := F) bufX bufX_whole (Memref.whole cc0_stg1_0) (Memref.whole cc0_stg2_0) (Memref.whole cc0_stg3_0)
          (Memref.whole cc0_stg4_0) (Memref.whole cc0_stg5_0) (Memref.whole cc0_stg6_0) outM (bufD true) (bufD_whole true)
          (bufD false) (bufD_whole false) (Memref.whole cc0_scratch2) (Memref.isWhole_whole _) (sndA true) (rcvA true) (sndA false) (rcvA false)) Q := by
  unfold allP Ins ToksIn ToksOut
  iintro ⟨#HI, #Hlev, ⟨Hx, Hw, Hsx, Hsw, Ht, H5, H6⟩, Ho, HbT, HbF, ⟨%fb, Hb⟩, HO, ⟨⟨HtL, HrL⟩, ⟨HtR, HrR⟩, Hc, Hat, Hto, Hre, Haw⟩, Hk⟩
  ihave HsT := (bufP_split c true) $$ HbT
  ihave HsF := (bufP_split c false) $$ HbF
  ihave HsT := (Entails.of_eq (slots_apart c true)) $$ HsT
  ihave HsF := (Entails.of_eq (slots_apart c false)) $$ HsF
  icases HsT with ⟨HkT, HsT⟩
  icases HsF with ⟨HkF, HsF⟩
  ihave Hre := (reached_lanes c) $$ Hre
  icases Hre with ⟨HreT, HreF⟩
  ihave HpL := (give_pay c true) $$ [HsT HreT]
  · isplitl [HsT]; · iexact HsT
    iexact HreT
  ihave HpR := (give_pay c false) $$ [HsF HreF]
  · isplitl [HsF]; · iexact HsF
    iexact HreF
  ihave Hx := (x_split xs c).1 $$ Hx
  icases Hx with ⟨Hx, Hsrc⟩
  ihave Hsrc := (srcs_split xs c) $$ Hsrc
  iapply (wpc_bind c (preP (F := F) (Memref.whole cc0_stg4_0)))
  iapply (wp_pre xs K c ft hT.1 hT.2.1 W)
  isplitr; · iexact HI
  isplitr; · iexact Hlev
  isplitl [Ht]; · iexact Ht
  isplitl [HO]; · iexact HO
  isplitl [HtL HrL HpL]
  · isplitl [HtL]; · iexact HtL
    isplitl [HrL]; · iexact HrL
    iexact HpL
  isplitl [HtR HrR HpR]
  · isplitl [HtR]; · iexact HtR
    isplitl [HrR]; · iexact HrR
    iexact HpR
  isplitl [Hc]; · iexact Hc
  isplitl [Hat]; · iexact Hat
  iintro ⟨Ht, HO, Hat, Hpay⟩
  iapply (wp_rest xs w sx sw K c _ _ (Fin.ext (dev2_word (nx true c))) (Fin.ext (dev1_word (nx false c))) ft f5 f6 f2 f3 fb hT h2 h3)
  isplitr; · iexact HI
  isplitr; · iexact Hlev
  isplitl [Hsrc]; · iexact Hsrc
  isplitl [Hto Hpay Haw HO]
  · unfold St
    isplitl [Hto Hpay]
    · rw [upto_zero]
      iapply (snd_start xs c)
      isplitl [Hto]; · iexact Hto
      iexact Hpay
    isplitl [Haw]
    · rw [upto_zero]
      iapply (Entails.of_eq (rcv_start xs c)) $$ Haw
    rw [upto_zero, Finset.compl_empty]
    iexact HO
  unfold Bufs
  isplitl [Hx Hw Hsx Hsw Ht]
  · isplitl [Hx]; · iexact Hx
    isplitl [Hw]; · iexact Hw
    isplitl [Hsx]; · iexact Hsx
    isplitl [Hsw]; · iexact Hsw
    iexact Ht
  isplitl [Hb]; · iexact Hb
  isplitl [H5]; · iexact H5
  isplitl [H6]; · iexact H6
  isplitl [Ho]; · iexact Ho
  iintro ⟨HSt, ⟨Hx, Hw, Hsx, Hsw, Ht⟩, HW⟩
  unfold St Work
  icases HSt with ⟨Hsnd, Hrcv, HO⟩
  icases HW with ⟨H5, H6, Hb, Ho⟩
  ihave Hsnd := (Entails.of_eq (snd_end xs c)) $$ Hsnd
  ihave Hrcv := (Entails.of_eq (rcv_end xs c)) $$ Hrcv
  ihave Hend := (all_end xs c) $$ [Hsnd Hrcv]
  · isplitl [Hsnd]; · iexact Hsnd
    iexact Hrcv
  icases Hend with ⟨HaS, HaR, Hsrc, Hsl⟩
  ihave Hsl := (Entails.of_eq (bigSep_bool _)) $$ Hsl
  icases Hsl with ⟨HsT, HsF⟩
  iapply Hk
  isplitl [Hx Hsrc Hw Hsx Hsw Ht H5 H6]
  · isplitl [Hx Hsrc]
    · iapply (x_split xs c).2
      isplitl [Hx]; · iexact Hx
      iexact Hsrc
    isplitl [Hw]; · iexact Hw
    isplitl [Hsx]; · iexact Hsx
    isplitl [Hsw]; · iexact Hsw
    isplitl [Ht]; · iexact Ht
    isplitl [H5]; · iexact H5
    iexact H6
  isplitl [Ho]
  · unfold outP
    icases Ho with ⟨%f, %hf, Ho⟩
    have e : f = target xs w sx sw c := funext fun i => hf i (Dn_all c (blkOf i))
    rw [← e]
    iexact Ho
  isplitl [HkT HsT]
  · iapply (bufP_join c true)
    iapply (Entails.of_eq (slots_apart c true).symm)
    isplitl [HkT]; · iexact HkT
    iexact HsT
  isplitl [HkF HsF]
  · iapply (bufP_join c false)
    iapply (Entails.of_eq (slots_apart c false).symm)
    isplitl [HkF]; · iexact HkF
    iexact HsF
  isplitl [Hb]
  · iexists _
    iexact Hb
  isplitl [HO]
  · rw [upto_all, Finset.compl_univ, Ow_empty]
    iexact HO
  isplitl [Hat]; · iexact Hat
  isplitl [HaS]; · iexact HaS
  iexact HaR

end Cert.KernelIdeal.Run

end
-- ==== Proof.Ghost.lean ====
/- The ghost state of the launch: the tokens of all duties dealt to the devices that pay them, the credit of the copies
   dealt to the devices that receive them, and the counters of the copies opened when the kernel starts and closed
   when it ends. -/
module

public import proofs.«01_k».proof.Proof.Whole

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The kernel's own counters -/

/-- The counter of a copy, at its receiver or its sender. -/
abbrev osem (q : Bool × Chan) : SemLoc sig := if q.1 then .dma (rcvS q.2) else .dma (sndS q.2)
/-- Its cell on device `c`. -/
abbrev ownCell (c : Dev nD) (q : Bool × Chan) : GSem nD τ sig := ((c : Thread nD τ), osem q)

def chanAt : SemLoc sig → Option (Bool × Chan)
  | .reg _ => none
  | .dma n => chanOf n
theorem chanAt_osem : ∀ q : Bool × Chan, chanAt (osem q) = some q
  | (true, p) => chanOf_rcv p
  | (false, p) => chanOf_snd p
theorem osem_inj : Function.Injective osem := fun q r h => by
  have e := congrArg chanAt h
  rw [chanAt_osem, chanAt_osem] at e
  exact Option.some.inj e
theorem osem_ne_bar (q : Bool × Chan) : osem q ≠ .reg barS := fun h => by
  have e := congrArg chanAt h
  rw [chanAt_osem] at e
  exact absurd e (by rintro ⟨⟩)
theorem stage_chan : ∀ (w : Fin 8) (s : Fin (spec0 w).nbuf), chanOf ((spec0 w).sem s) = none := by decide
theorem osem_scoped : ∀ q : Bool × Chan, (osem q).isScoped .tc = true := by decide
theorem own_facts : Pipeline.OwnSemFacts spec0 osem where
  isScoped := osem_scoped
  inj := osem_inj
  disj q w s h := by
    have e := congrArg chanAt h
    rw [chanAt_osem] at e
    exact absurd (e.trans (stage_chan w s)) (by rintro ⟨⟩)

theorem rcv_inj {c d : Dev nD} {p q : Chan} (h : rcvCell c p = rcvCell d q) : c = d ∧ p = q := by
  refine ⟨congrArg (fun g : GSem nD τ sig => g.1.1) h, ?_⟩
  have e := congrArg (fun g : GSem nD τ sig => chanAt g.2) h
  have e' : chanOf (rcvS p) = chanOf (rcvS q) := e
  rw [chanOf_rcv, chanOf_rcv] at e'
  exact congrArg Prod.snd (Option.some.inj e')

/-! ## The cells, listed -/

def barEmb : Dev nD ↪ GSem nD τ sig := ⟨fun c => barCell c, fun _ _ h => congrArg (fun g : GSem nD τ sig => g.1.1) h⟩
def ownEmb : Dev nD × Bool × Chan ↪ GSem nD τ sig :=
  ⟨fun k => ownCell k.1 k.2, fun _ _ h =>
    Prod.ext (congrArg (fun g : GSem nD τ sig => g.1.1) h) (osem_inj (congrArg Prod.snd h))⟩
theorem barCells_eq : barCells = Finset.univ.map barEmb := by
  unfold barCells; rw [sealed_eq, Finset.map_eq_image]; rfl
theorem dmaCells_eq : dmaCells = Finset.univ.map ownEmb := by
  unfold dmaCells; rw [sealed_eq, Finset.map_eq_image]
  refine Finset.image_congr fun q _ => ?_
  obtain ⟨c, b, p⟩ := q
  cases b <;> rfl
theorem cells_disjoint : Disjoint barCells dmaCells := by
  rw [barCells_eq, dmaCells_eq, Finset.disjoint_left]
  rintro g h₁ h₂
  obtain ⟨c, -, rfl⟩ := Finset.mem_map.mp h₁
  obtain ⟨k, -, h⟩ := Finset.mem_map.mp h₂
  exact osem_ne_bar k.2 (congrArg Prod.snd h)

theorem bigSep_bars (Φ : GSem nD τ sig → sProp 𝕄) : bigSep barCells Φ = bigSep Finset.univ fun c : Dev nD => Φ (barCell c) := by
  rw [barCells_eq, bigSep_map]; rfl
theorem bigSep_owns (Φ : GSem nD τ sig → sProp 𝕄) :
    bigSep dmaCells Φ = bigSep Finset.univ fun c : Dev nD => bigSep Finset.univ fun q => Φ (ownCell c q) := by
  rw [dmaCells_eq, bigSep_map, bigSep_univ_prod]; rfl
/-- A family over the counters, by side. -/
theorem bigSep_sides (Φ : Bool × Chan → sProp 𝕄) :
    bigSep Finset.univ Φ = iprop((bigSep Finset.univ fun p => Φ (true, p)) ∗ bigSep Finset.univ fun p => Φ (false, p)) := by
  rw [bigSep_univ_prod, bigSep_bool]

/-! ## The duties' tokens -/

/-- Where a duty lies: on a barrier, or on the cell of a copy. -/
abbrev DutyAt : Type := Dev nD × (Bool ⊕ (Bool × Chan))
def dutyAt : DutyAt → GSem nD τ sig × ℕ × Bool
  | (c, .inl b) => (barCell c, 0, b)
  | (c, .inr q) => (ownCell c q, 0, true)
theorem dutyAt_inj : Function.Injective dutyAt := by
  rintro ⟨c, x⟩ ⟨d, y⟩ h
  have hc : c = d := by
    have := congrArg (fun t : GSem nD τ sig × ℕ × Bool => t.1.1.1) h
    cases x <;> cases y <;> exact this
  subst hc
  have hs := congrArg (fun t : GSem nD τ sig × ℕ × Bool => t.1.2) h
  have hb := congrArg (fun t : GSem nD τ sig × ℕ × Bool => t.2.2) h
  cases x with
  | inl b => cases y with
    | inl b' => exact congrArg (fun b => (c, Sum.inl b)) hb
    | inr q => exact absurd hs.symm (osem_ne_bar q)
  | inr q => cases y with
    | inl b' => exact absurd hs (osem_ne_bar q)
    | inr q' => exact congrArg (fun q => (c, Sum.inr q)) (osem_inj hs)
def allDuties : Finset (GSem nD τ sig × ℕ × Bool) := Classical.choose (⟨_, rfl⟩ : ∃ T, T = Finset.univ.map ⟨dutyAt, dutyAt_inj⟩)
theorem allDuties_eq : allDuties = Finset.univ.map ⟨dutyAt, dutyAt_inj⟩ :=
  Classical.choose_spec (⟨_, rfl⟩ : ∃ T, T = Finset.univ.map ⟨dutyAt, dutyAt_inj⟩)

/-- The tokens a device pays with: the neighbours' barriers, and both ends of its copies. -/
def payBars (c : Dev nD) : sProp 𝕄 := iprop(dutyTok ER (barCell (nx false c)) 0 true ∗ dutyTok ER (barCell (nx true c)) 0 false)
def payEnds (c : Dev nD) (p : Chan) : sProp 𝕄 := iprop(dutyTok ER (sndCell c p) 0 true ∗ dutyTok ER (rcvCell (nx p.1 c) p) 0 true)

theorem duties_dealt :
    bigSep allDuties (fun x => (dutyTok ER x.1 x.2.1 x.2.2 : sProp 𝕄))
      ⊢ iprop((bigSep Finset.univ fun c : Dev nD => payBars (F := F) c)
          ∗ bigSep Finset.univ fun c : Dev nD => bigSep Finset.univ fun p => payEnds (F := F) c p) := by
  have e1 : bigSep allDuties (fun x => (dutyTok ER x.1 x.2.1 x.2.2 : sProp 𝕄))
      = iprop(((bigSep Finset.univ fun c : Dev nD => dutyTok ER (barCell c) 0 true)
            ∗ bigSep Finset.univ fun c : Dev nD => dutyTok ER (barCell c) 0 false)
          ∗ ((bigSep Finset.univ fun c : Dev nD => bigSep Finset.univ fun p : Chan => dutyTok ER (rcvCell c p) 0 true)
            ∗ bigSep Finset.univ fun c : Dev nD => bigSep Finset.univ fun p : Chan => dutyTok ER (sndCell c p) 0 true)) := by
    rw [allDuties_eq, bigSep_map, bigSep_univ_prod, ← bigSep_sep', ← bigSep_sep', ← bigSep_sep']
    refine bigSep_congr fun c _ => ?_
    rw [bigSep_univ_sum, bigSep_bool, bigSep_sides]; rfl
  have e2 : (bigSep Finset.univ fun c : Dev nD => bigSep Finset.univ fun p : Chan => (dutyTok ER (rcvCell c p) 0 true : sProp 𝕄))
      = bigSep Finset.univ fun c : Dev nD => bigSep Finset.univ fun p : Chan => dutyTok ER (rcvCell (nx p.1 c) p) 0 true := by
    rw [bigSep_turned]
    refine Eq.trans ?_ (bigSep_turned (fun (p : Chan) (c : Dev nD) => (dutyTok ER (rcvCell (nx p.1 c) p) 0 true : sProp 𝕄)))
    exact bigSep_congr fun p _ => bigSep_univ_equiv (turn p.1) (fun c : Dev nD => (dutyTok ER (rcvCell c p) 0 true : sProp 𝕄))
  have e3 (b b' : Bool) : (bigSep Finset.univ fun c : Dev nD => (dutyTok ER (barCell c) 0 b : sProp 𝕄))
      = bigSep Finset.univ fun c : Dev nD => dutyTok ER (barCell (nx b' c)) 0 b :=
    bigSep_univ_equiv (turn b') (fun c : Dev nD => (dutyTok ER (barCell c) 0 b : sProp 𝕄))
  have e4 : (bigSep Finset.univ fun c : Dev nD => payBars (F := F) c)
      = iprop((bigSep Finset.univ fun c : Dev nD => dutyTok ER (barCell (nx false c)) 0 true)
            ∗ bigSep Finset.univ fun c : Dev nD => dutyTok ER (barCell (nx true c)) 0 false) := bigSep_sep _ _ _
  have e5 : (bigSep Finset.univ fun c : Dev nD => bigSep Finset.univ fun p => payEnds (F := F) c p)
      = iprop((bigSep Finset.univ fun c : Dev nD => bigSep Finset.univ fun p : Chan => dutyTok ER (sndCell c p) 0 true)
            ∗ bigSep Finset.univ fun c : Dev nD => bigSep Finset.univ fun p : Chan => dutyTok ER (rcvCell (nx p.1 c) p) 0 true) := by
    rw [← bigSep_sep']
    exact bigSep_congr fun c _ => bigSep_sep _ _ _
  rw [e1, e2, e3 true false, e3 false true, e4, e5]
  iintro ⟨H1, H2, H3⟩
  isplitl [H1]; · iexact H1
  isplitl [H3]; · iexact H3
  iexact H2

/-! ## The credit that comes with the debts -/

theorem owed_bar (d c : Dev nD) : O₀ d (barCell c) () = (if d = nx false c then 1 else 0) + (if d = nx true c then 1 else 0) := by
  have h0 : Ow d Finset.univ (barCell c) () = 0 := by
    by_contra h
    obtain ⟨p, -, e⟩ := Ow_pos (Nat.pos_of_ne_zero h)
    exact absurd (congrArg (fun g : GSem nD τ sig => chanAt g.2) e) (by
      show none ≠ chanOf (rcvS p); rw [chanOf_rcv]; rintro ⟨⟩)
  have h1 (b : Bool) : (tallyAt (barCell (nx b d)) () 1 : CellTallies nD τ sig Unit) (barCell c) () = if d = nx (!b) c then 1 else 0 := by
    rw [tallyAt_apply]
    by_cases h : d = nx (!b) c
    · subst h; rw [nx_back, if_pos ⟨rfl, rfl⟩, if_pos rfl]
    · have hn : ¬(barCell c = barCell (nx b d) ∧ () = ()) := fun ⟨e, _⟩ => h (by
        have e' : c = nx b d := congrArg (fun g : GSem nD τ sig => g.1.1) e
        rw [e', back_nx])
      rw [if_neg h, if_neg hn]
  unfold O₀
  rw [Pi.add_apply, Finsupp.add_apply, Pi.add_apply, Finsupp.add_apply, h0, h1, h1, Nat.zero_add]; rfl

theorem owed_rcv (d c : Dev nD) (p : Chan) : O₀ d (rcvCell c p) () = if d = nx (!p.1) c then N else 0 := by
  have h1 (b : Bool) : (tallyAt (barCell (nx b d)) () 1 : CellTallies nD τ sig Unit) (rcvCell c p) () = 0 := by
    have hn : ¬(rcvCell c p = barCell (nx b d) ∧ () = ()) := fun ⟨e, _⟩ =>
      absurd (congrArg (fun g : GSem nD τ sig => chanAt g.2) e) (by
        show chanOf (rcvS p) ≠ none; rw [chanOf_rcv]; rintro ⟨⟩)
    rw [tallyAt_apply, if_neg hn]
  have h0 : Ow d Finset.univ (rcvCell c p) () = if d = nx (!p.1) c then N else 0 := by
    unfold Ow
    rw [Finset.sum_apply, Finsupp.finsetSum_apply, Finset.sum_eq_single p]
    · rw [tallyAt_apply]
      by_cases h : d = nx (!p.1) c
      · rw [if_pos h, h, nx_back, if_pos ⟨rfl, rfl⟩]
      · have hn : ¬(rcvCell c p = rcvCell (nx p.1 d) p ∧ () = ()) := fun ⟨e, _⟩ => h (by rw [(rcv_inj e).1, back_nx])
        rw [if_neg h, if_neg hn]
    · intro q _ hq
      rw [tallyAt_apply, if_neg fun ⟨e, _⟩ => hq (rcv_inj e).2.symm]
    · exact fun h => absurd (Finset.mem_univ p) h
  unfold O₀
  rw [Pi.add_apply, Finsupp.add_apply, Pi.add_apply, Finsupp.add_apply, h0, h1, h1]; rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nx false c) fun _ => 1, Finset.sum_ite_eq' Finset.univ (nx true c) fun _ => 1,
    if_pos (Finset.mem_univ _), if_pos (Finset.mem_univ _)]
theorem launch_rcv (c : Dev nD) (p : Chan) :
    tallyOn (rcvCell c p) (launchCredit (Pipeline.owing O₀) 0 (rcvCell c p)) = (tallyAt (rcvCell c p) () N : CellTallies nD τ sig Unit) := by
  unfold tallyAt; refine congrArg _ (Finsupp.ext fun u => ?_); cases u
  rw [Pipeline.launchCredit_owing, Finsupp.single_eq_same, Finset.sum_congr rfl fun d _ => owed_rcv d c p,
    Finset.sum_ite_eq' Finset.univ (nx (!p.1) c) fun _ => N, if_pos (Finset.mem_univ _)]

/-- What device `c` may wait for. -/
def credits (c : Dev nD) : sProp 𝕄 :=
  iprop(cred (tallyAt (barCell c) () 2) ∗ bigSep Finset.univ fun p : Chan => cred (tallyAt (rcvCell c p) () N))

def rcvEmb : Chan ↪ SemLoc sig := ⟨fun p => osem (true, p), fun _ _ h => congrArg Prod.snd (osem_inj h)⟩
theorem credits_of (c : Dev nD) : (Pipeline.launchCred O₀ c : sProp 𝕄) ⊢ credits c := by
  unfold Pipeline.launchCred credits
  have hs : (Finset.univ.map rcvEmb : Finset (SemLoc sig)) ⊆ Finset.univ.erase (SemLoc.reg barS) := fun s hs => by
    obtain ⟨p, -, rfl⟩ := Finset.mem_map.mp hs
    exact Finset.mem_erase.mpr ⟨osem_ne_bar (true, p), Finset.mem_univ _⟩
  have e : (bigSep (Finset.univ.map rcvEmb) fun sm : SemLoc sig =>
        (cred (tallyOn ((c.tc : Thread nD τ), sm) (launchCredit (Pipeline.owing O₀) 0 ((c.tc : Thread nD τ), sm))) : sProp 𝕄))
      = bigSep Finset.univ fun p : Chan => cred (tallyAt (rcvCell c p) () N) := by
    rw [bigSep_map]
    exact bigSep_congr fun p _ => congrArg _ (launch_rcv c p)
  rw [bigSep_univ_at _ (SemLoc.reg barS), launch_bar, bigSep_sdiff_split hs, e]
  show iprop(cred (tallyAt (barCell c) () 2) ∗ (bigSep Finset.univ fun p : Chan => cred (tallyAt (rcvCell c p) () N)) ∗ _) ⊢ _
  iintro ⟨H1, H2, -⟩
  isplitl [H1]; · iexact H1
  iexact H2

/-! ## What a device carries to the kernel, and the kernel's counters opened -/

variable (xs : Dev nD → Vec F S512x4096 .i8)

/-- What all devices know: the invariants, and that the barriers are open. -/
def records (K : GSem nD τ sig → ℕ) : sProp 𝕄 := iprop(invAll xs K ∗ bigSep barCells fun g => reached ER g 0)
instance records_persistent (K : GSem nD τ sig → ℕ) : BI.Persistent (records (F := F) xs K) := by unfold records; infer_instance
theorem reached_bar (c : Dev nD) : (bigSep barCells fun g => (reached ER g 0 : sProp 𝕄)) ⊢ reached ER (barCell c) 0 :=
  bigSep_elim (bar_mem c)

/-- What is device `c`'s alone. -/
def kept (c : Dev nD) : sProp 𝕄 :=
  iprop(atPos ER (barCell c) 0 ∅ 0 ∗ (bigSep Finset.univ fun q => openTok ER (ownCell c q))
    ∗ payBars c ∗ bigSep Finset.univ fun p => payEnds c p)
def Tk (c : Dev nD) : sProp 𝕄 := iprop((∃ K, records xs K ∗ kept c) ∗ credits c)
def Xk (c : Dev nD) : sProp 𝕄 := iprop((∃ K, invAll xs K ∗ ToksIn c) ∗ levAts L lv)

theorem inv_own (K : GSem nD τ sig → ℕ) (c : Dev nD) (q : Bool × Chan) :
    invAll (F := F) xs K ⊢ cellInv ER (ringRd xs) (K (ownCell c q)) (ownCell c q) := by
  obtain ⟨b, p⟩ := q
  cases b
  · exact inv_snd xs K c p
  · exact inv_rcv xs K c p
theorem open_own (K : GSem nD τ sig → ℕ) (c : Dev nD) (q : Bool × Chan) :
    iprop(invAll (F := F) xs K ∗ openTok ER (ownCell c q) ∗ semVal (ownCell c q) 0)
      ⊢ (|={Set.univ}=> iprop(atPos ER (ownCell c q) 0 ∅ 0 ∗ reached ER (ownCell c q) 0) : sProp 𝕄) :=
  (sep_mono_left (inv_own xs K c q)).trans (Rounds.cell_open ER (ringRd xs) (Set.mem_univ (K (ownCell c q))))
theorem open_all (K : GSem nD τ sig → ℕ) (c : Dev nD) :
    iprop(invAll (F := F) xs K ∗ bigSep Finset.univ (fun q => iprop(openTok ER (ownCell c q) ∗ semVal (ownCell c q) 0)))
      ⊢ (|={Set.univ}=> bigSep Finset.univ fun q => iprop(atPos ER (ownCell c q) 0 ∅ 0 ∗ reached ER (ownCell c q) 0) : sProp 𝕄) :=
  (bigSep_with_persistent fun q _ => open_own xs K c q).trans (bigSep_fupd _ _)

theorem toksP_intro (c : Dev nD) (p : Chan) :
    iprop(payEnds (F := F) c p ∗ atPos ER (sndCell c p) 0 ∅ 0 ∗ reached ER (sndCell c p) 0) ⊢ toksP c p := by
  unfold payEnds toksP
  iintro ⟨⟨H1, H2⟩, H3, H4⟩
  isplitl [H1]; · iexact H1
  isplitl [H2]; · iexact H2
  isplitl [H4]; · iexact H4
  iexact H3

theorem toks_assemble (c : Dev nD) :
    iprop((bigSep Finset.univ fun p => payEnds (F := F) c p)
        ∗ bigSep Finset.univ fun p : Chan => iprop(atPos ER (sndCell c p) 0 ∅ 0 ∗ reached ER (sndCell c p) 0))
      ⊢ bigSep Finset.univ (toksP (F := F) c) := by
  rw [← bigSep_sep']
  exact bigSep_mono fun p _ => toksP_intro c p
theorem await_assemble (c : Dev nD) :
    iprop((bigSep Finset.univ fun p : Chan => (cred (tallyAt (rcvCell c p) () N) : sProp 𝕄))
        ∗ bigSep Finset.univ fun p : Chan => atPos ER (rcvCell c p) 0 ∅ 0)
      ⊢ bigSep Finset.univ (await (F := F) c) :=
  Entails.of_eq (bigSep_sep _ _ _).symm
theorem both_split (c : Dev nD) :
    (bigSep Finset.univ fun q => iprop(atPos ER (ownCell c q) 0 ∅ 0 ∗ reached ER (ownCell c q) 0) : sProp 𝕄)
      ⊢ iprop(((bigSep Finset.univ fun p : Chan => atPos ER (rcvCell c p) 0 ∅ 0) ∗ bigSep Finset.univ fun p : Chan => reached ER (rcvCell c p) 0)
          ∗ bigSep Finset.univ fun p : Chan => iprop(atPos ER (sndCell c p) 0 ∅ 0 ∗ reached ER (sndCell c p) 0)) := by
  rw [bigSep_sides]
  refine sep_mono_left ?_
  exact Entails.of_eq (bigSep_sep _ _ _)

theorem opens (c : Dev nD) :
    iprop(Tk (F := F) xs c ∗ Pipeline.ownSems0 osem c ∗ levAts L lv) ⊢ (|={Set.univ}=> Xk xs c : sProp 𝕄) := by
  unfold Tk Xk records kept credits Pipeline.ownSems0
  iintro ⟨⟨⟨%K, ⟨#HI, #HR⟩, HatB, Hop, HpB, HpE⟩, HcB, HcR⟩, Hsv, #Hlev⟩
  unfold payBars
  icases HpB with ⟨HpF, HpT⟩
  imod (open_all xs K c) $$ [Hop Hsv] with Hopen
  · isplitr; · iexact HI
    iapply (Entails.of_eq (bigSep_sep' Finset.univ (fun q => (openTok ER (ownCell c q) : sProp 𝕄)) fun q => semVal (ownCell c q) 0).symm)
    isplitl [Hop] <;> iassumption
  ihave Ho := (both_split (F := F) c) $$ Hopen
  icases Ho with ⟨⟨HatR, HrR⟩, Hs⟩
  imodintro
  isplitl
  · iexists K
    isplitr; · iexact HI
    unfold ToksIn
    isplitl [HpF]
    · isplitl [HpF]; · iexact HpF
      iapply (reached_bar (F := F) (nx false c)); iexact HR
    isplitl [HpT]
    · isplitl [HpT]; · iexact HpT
      iapply (reached_bar (F := F) (nx true c)); iexact HR
    isplitl [HcB]; · iexact HcB
    isplitl [HatB]; · iexact HatB
    isplitl [HpE Hs]
    · iapply (toks_assemble (F := F) c)
      isplitl [HpE] <;> iassumption
    isplitl [HrR]; · iexact HrR
    iapply (await_assemble (F := F) c)
    isplitl [HcR] <;> iassumption
  iexact Hlev

/-! ## The counters closed again -/

theorem close_snd (K : GSem nD τ sig → ℕ) (c : Dev nD) (p : Chan) :
    iprop(invAll (F := F) xs K ∗ atPos ER (sndCell c p) (0 + 1) ∅ 0) ⊢ (|={Set.univ}=> semVal (sndCell c p) 0 : sProp 𝕄) :=
  (sep_mono_left (inv_snd xs K c p)).trans (close xs _ _)
theorem close_rcv (K : GSem nD τ sig → ℕ) (c : Dev nD) (p : Chan) :
    iprop(invAll (F := F) xs K ∗ atPos ER (rcvCell c p) (0 + 1) ∅ 0) ⊢ (|={Set.univ}=> semVal (rcvCell c p) 0 : sProp 𝕄) :=
  (sep_mono_left (inv_rcv xs K c p)).trans (close xs _ _)
theorem closes (K : GSem nD τ sig → ℕ) (c : Dev nD) :
    iprop(invAll (F := F) xs K ∗ ToksOut c) ⊢ (|={Set.univ}=> iprop(semVal (barCell c) 0 ∗ Pipeline.ownSems0 osem c) : sProp 𝕄) := by
  have e : (Pipeline.ownSems0 osem c : sProp 𝕄)
      = iprop((bigSep Finset.univ fun p => semVal (rcvCell c p) 0) ∗ bigSep Finset.univ fun p => semVal (sndCell c p) 0) := by
    unfold Pipeline.ownSems0; rw [bigSep_sides]; rfl
  have hs : iprop(invAll (F := F) xs K ∗ bigSep Finset.univ fun p : Chan => atPos ER (sndCell c p) (0 + 1) ∅ 0)
      ⊢ (|={Set.univ}=> bigSep Finset.univ fun p => semVal (sndCell c p) 0 : sProp 𝕄) :=
    (bigSep_with_persistent fun p _ => close_snd xs K c p).trans (bigSep_fupd _ _)
  have hr : iprop(invAll (F := F) xs K ∗ bigSep Finset.univ fun p : Chan => atPos ER (rcvCell c p) (0 + 1) ∅ 0)
      ⊢ (|={Set.univ}=> bigSep Finset.univ fun p => semVal (rcvCell c p) 0 : sProp 𝕄) :=
    (bigSep_with_persistent fun p _ => close_rcv xs K c p).trans (bigSep_fupd _ _)
  rw [e]
  unfold ToksOut
  iintro ⟨#HI, HB, HS, HR⟩
  imod (close xs (K (barCell c)) (barCell c)) $$ [HB] with HB
  · isplitr; · iapply (inv_bar xs K c); iexact HI
    iexact HB
  imod hs $$ [HS] with HS
  · isplitr; · iexact HI
    iexact HS
  imod hr $$ [HR] with HR
  · isplitr; · iexact HI
    iexact HR
  imodintro
  isplitl [HB]; · iexact HB
  isplitl [HR] <;> iassumption

end Cert.KernelIdeal.Run

end
-- ==== Proof.Host.lean ====
/- What the host leaves in the kernel's tables. From a device's number the host looks up the device's position along the ring, steps
to the positions beside it modulo eight, and looks the devices there up again: the two neighbours go into one table together with
the device's own number. The same arithmetic over a whole row of positions gives the two tables of chunk origins, one for each
way around the ring. -/
module

public import proofs.«01_k».proof.Proof.Ghost
public import proofs.«01_k».proof.Proof.Gen.KernelIdeal.Regions
public import Idealize.ShloMosaic.Lib.StableHlo.RunClose
public import Idealize.ShloMosaic.Lib.StableHlo.Predicate

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.StableHlo

variable (m : (ℓ : Loc nD τ sig) → Buf (Elt F) ℓ)

/-- A number as a word of no axis. -/
abbrev word0 (n : ℕ) : Vec F S_ .i32 := fun _ => BitVec.ofNat 32 n

/-! ## Positions along the ring -/

theorem V1_c (c : Dev nD) : (V1 m c main_c : Vec F S8 .i32) = fun i => lit0 (S8.rowMajor i) := by
  unfold V1 V0
  after_results_simp_entrywise
  rfl
theorem V1_c6 (c : Dev nD) : (V1 m c main_c_6 : Vec F S_ .i32) = word0 8 := by
  unfold V1 V0
  after_results_simp_entrywise
  rfl
theorem word_dev : ∀ c : Dev nD, IntOp.remui .host (IntOp.divui .host c.word 1#32) 8#32 = BitVec.ofNat 32 c.val := by
  decide +kernel
theorem V1_v4 (c : Dev nD) : (V1 m c main_v4 : Vec F S_ .i32) = word0 c.val := by
  unfold V1 V0
  after_results_simp_entrywise
  funext i
  exact word_dev c
/-- The entry of the positions' table at a device. -/
theorem slice_pos : ∀ p : Fin 8, (shapeCast S_ (Host.dynamicSlice S1 (fun i => lit1 (S8.rowMajor i)) (fun k : Fin 1 => BitVec.toInt
      ((![select (cmpi .slt (fun _ => BitVec.ofNat 32 p.val : IVec S_ 32) (constantI S_ 32 0#32)) (addi (fun _ => BitVec.ofNat 32 p.val : IVec S_ 32) (constantI S_ 32 8#32))
        (fun _ => BitVec.ofNat 32 p.val : IVec S_ 32)] : Fin 1 → IVec S_ 32) k (Shape.Idx.first h_S_))) sliceFits_S8_S1) shapeCasts_S1_S_ : IVec S_ 32) (fun a => a.elim0) = BitVec.ofNat 32 (posOf p).val := by
  decide +kernel
theorem idx0 (i : S_.Idx) : i = fun a => a.elim0 := funext fun a => a.elim0
theorem V1_v9 (c : Dev nD) : (V1 m c main_v9 : Vec F S_ .i32) = word0 (posOf c).val := by
  have h : (V1 m c main_v9 : Vec F S_ .i32) = (shapeCast S_ (Host.dynamicSlice S1 (fun i => lit1 (S8.rowMajor i)) (fun k : Fin 1 => BitVec.toInt
      ((![select (cmpi .slt (V1 m c main_v4 : Vec F S_ .i32) (constantI S_ 32 0#32)) (addi (V1 m c main_v4 : Vec F S_ .i32) (constantI S_ 32 8#32))
        (V1 m c main_v4 : Vec F S_ .i32)] : Fin 1 → IVec S_ 32) k (Shape.Idx.first h_S_))) sliceFits_S8_S1) shapeCasts_S1_S_ : Vec F S_ .i32) := by
    unfold V1 V0
    after_results_simp_entrywise
    rfl
  rw [h, V1_v4]
  funext i
  obtain rfl := idx0 i
  exact slice_pos c
theorem V1_v11 (c : Dev nD) : (V1 m c main_v11 : Vec F S_ .i32) = word0 ((posOf c).val + 1) := by
  have h : (V1 m c main_v11 : Vec F S_ .i32) = addi (V1 m c main_v9 : Vec F S_ .i32) (constantI S_ 32 1#32) := by
    unfold V1 V0
    after_results_simp_entrywise
  rw [h, V1_v9]
  funext i
  exact (by decide : ∀ c : Dev nD, BitVec.ofNat 32 (posOf c).val + 1#32 = BitVec.ofNat 32 ((posOf c).val + 1)) c
theorem V1_v10 (c : Dev nD) : (V1 m c main_v10 : Vec F S7 .i32) = fun i => BitVec.ofNat 32 (i 0).val := by
  unfold V1 V0
  after_results_simp_entrywise
  rfl

/-- The remainder by eight the host takes, which is nonnegative. -/
def rem8 (x : BitVec 32) : BitVec 32 :=
  select (s := S_) (andi (cmpi .ne (cmpi .slt (Host.remsi (fun _ => x) (constantI S_ 32 8#32)) (constantI S_ 32 0#32))
      (cmpi .slt (constantI S_ 32 8#32) (constantI S_ 32 0#32))) (cmpi .ne (Host.remsi (fun _ => x) (constantI S_ 32 8#32)) (constantI S_ 32 0#32)))
    (addi (Host.remsi (fun _ => x) (constantI S_ 32 8#32)) (constantI S_ 32 8#32)) (Host.remsi (fun _ => x) (constantI S_ 32 8#32)) (fun a => a.elim0)

theorem rem8_right : ∀ c : Dev nD, rem8 (BitVec.ofNat 32 ((posOf c).val + 1)) = BitVec.ofNat 32 (posOf c + 1).val := by
  decide +kernel
theorem rem8_left : ∀ c : Dev nD, rem8 (BitVec.ofNat 32 (posOf c).val - 1#32) = BitVec.ofNat 32 (posOf c - 1).val := by
  decide +kernel
theorem rem8_cw : ∀ (c : Dev nD) (s : Fin 7), rem8 (BitVec.ofNat 32 (posOf c).val - 1#32 - BitVec.ofNat 32 s.val)
    = BitVec.ofNat 32 (posOf (org true (s.val + 1) c)).val := by
  decide +kernel
theorem rem8_ccw : ∀ (c : Dev nD) (s : Fin 7), rem8 (BitVec.ofNat 32 (posOf c).val + 1#32 + BitVec.ofNat 32 s.val)
    = BitVec.ofNat 32 (posOf (org false (s.val + 1) c)).val := by
  decide +kernel
theorem ringAt_posOf : ∀ c : Dev nD, ringAt (posOf c) = c := by decide

/-- The entry of the ring's table at a position. -/
theorem slice_ring : ∀ p : Fin 8, (shapeCast S_ (Host.dynamicSlice S1 (fun i => lit0 (S8.rowMajor i)) (fun k : Fin 1 => BitVec.toInt
      ((![select (cmpi .slt (fun _ => BitVec.ofNat 32 p.val : IVec S_ 32) (constantI S_ 32 0#32)) (addi (fun _ => BitVec.ofNat 32 p.val : IVec S_ 32) (constantI S_ 32 8#32))
        (fun _ => BitVec.ofNat 32 p.val)] : Fin 1 → IVec S_ 32) k (Shape.Idx.first h_S_))) sliceFits_S8_S1) shapeCasts_S1_S_ : IVec S_ 32) (fun a => a.elim0) = BitVec.ofNat 32 (ringAt p).val := by
  decide +kernel

/-- The entry of the ring's table that a gather reads at a word. -/
def pick (x : BitVec 32) : BitVec 32 :=
  lit0 (S8.rowMajor (Shape.Idx.ofFin (⟨min (BitVec.toInt (Scalar.select (IntOp.cmpi .slt x 0#32) (IntOp.addi x 8#32) x)).toNat (8 - 1), by omega⟩ : Fin 8)))
theorem pick_at (y x : BitVec 32) (hp : min y.toInt.toNat (8 - 1) < 8)
    (h : y = Scalar.select (IntOp.cmpi .slt x 0#32) (IntOp.addi x 8#32) x) :
    lit0 (S8.rowMajor (Shape.Idx.ofFin (⟨min y.toInt.toNat (8 - 1), hp⟩ : Fin 8))) = pick x := by
  subst h; rfl
theorem pick_ring : ∀ p : Fin 8, pick (BitVec.ofNat 32 p.val) = BitVec.ofNat 32 (ringAt p).val := by
  decide +kernel

theorem cat0 {α : Type} (a b d : S1.Idx → α) (h) : ∃ j, concatenate S3 0 [⟨S1, a⟩, ⟨S1, b⟩, ⟨S1, d⟩] h (ix1 0) = a j := ⟨_, rfl⟩
theorem cat1 {α : Type} (a b d : S1.Idx → α) (h) : ∃ j, concatenate S3 0 [⟨S1, a⟩, ⟨S1, b⟩, ⟨S1, d⟩] h (ix1 1) = b j := ⟨_, rfl⟩
theorem cat2 {α : Type} (a b d : S1.Idx → α) (h) : ∃ j, concatenate S3 0 [⟨S1, a⟩, ⟨S1, b⟩, ⟨S1, d⟩] h (ix1 2) = d j := ⟨_, rfl⟩
theorem row_col {α : Type} (X : S7.Idx → α) (s : Fin 7) :
    broadcastInDim S7x1 ![0] bcast_S7_S7x1_0 X (StableHlo.Predicate.ixP s) = X (Shape.Idx.ofFin s) := by
  unfold broadcastInDim
  congr 1
  funext a
  fin_cases a
  rfl

/-! ## One stretch at a time, over what it finds -/

variable (U : Valuation τ sig (Elt F))

theorem right_rem (h : (U main_c_6 : Vec F S_ .i32) = word0 8) :
    (after hostOps0_1 U main_v12 : Vec F S_ .i32) = fun i => rem8 ((U main_v11 : Vec F S_ .i32) i) := by
  after_results_simp_entrywise
  simp only [h, TRef.ofBuf, TRef.toBuf, cast_cast, cast_eq]
  rfl
theorem left_rem (h : (U main_c_10 : Vec F S_ .i32) = word0 8) :
    (after hostOps0_3 U main_v19 : Vec F S_ .i32) = fun i => rem8 ((U main_v18 : Vec F S_ .i32) i) := by
  after_results_simp_entrywise
  simp only [h, TRef.ofBuf, TRef.toBuf, cast_cast, cast_eq]
  rfl
theorem cw_rem (h : (U main_c_14 : Vec F S_ .i32) = word0 8) :
    (after hostOps0_5 U main_v32 : Vec F S7 .i32) = fun i => rem8 ((U main_v31 : Vec F S7 .i32) i) := by
  after_results_simp_entrywise
  simp only [h, TRef.ofBuf, TRef.toBuf, cast_cast, cast_eq]
  rfl
theorem ccw_rem (h : (U main_c_18 : Vec F S_ .i32) = word0 8) :
    (after hostOps0_7 U main_v43 : Vec F S7 .i32) = fun i => rem8 ((U main_v42 : Vec F S7 .i32) i) := by
  after_results_simp_entrywise
  simp only [h, TRef.ofBuf, TRef.toBuf, cast_cast, cast_eq]
  rfl

theorem right_dev (hc : (U main_c : Vec F S8 .i32) = fun i => lit0 (S8.rowMajor i)) (p : Fin 8) (h : (U main_v12 : Vec F S_ .i32) = word0 p.val) :
    (after hostOps0_2 U main_v17 : Vec F S_ .i32) = word0 (ringAt p).val := by
  after_results_simp_entrywise
  simp only [hc, h]
  funext i
  obtain rfl := idx0 i
  exact slice_ring p
theorem left_pos : (after hostOps0_2 U main_v18 : Vec F S_ .i32) = subi (U main_v9 : Vec F S_ .i32) (constantI S_ 32 1#32) := by
  after_results_simp_entrywise
theorem left_eight : (after hostOps0_2 U main_c_10 : Vec F S_ .i32) = word0 8 := by
  after_results_simp_entrywise
  rfl

theorem words_cat : (after hostOps0_4 U main_v28 : Vec F S3 .i32)
    = concatenate S3 0 [⟨S1, (after hostOps0_4 U main_v25 : Vec F S1 .i32)⟩, ⟨S1, (after hostOps0_4 U main_v26 : Vec F S1 .i32)⟩,
        ⟨S1, (after hostOps0_4 U main_v27 : Vec F S1 .i32)⟩] concatenates_S1_S1_S1_S3_d0 := by
  after_results_simp_entrywise
  rfl
theorem right_word (q : Fin 8) (h : (U main_v17 : Vec F S_ .i32) = word0 q.val) :
    (after hostOps0_4 U main_v28 : Vec F S3 .i32) (ix1 0) = BitVec.ofNat 32 q.val := by
  obtain ⟨j, hj⟩ := cat0 (after hostOps0_4 U main_v25 : Vec F S1 .i32) (after hostOps0_4 U main_v26) (after hostOps0_4 U main_v27) concatenates_S1_S1_S1_S3_d0
  rw [words_cat, hj]
  clear hj
  after_results_simp_entrywise
  rw [h]
  rfl
theorem left_word (p : Fin 8) (hc : (U main_c : Vec F S8 .i32) = fun i => lit0 (S8.rowMajor i)) (h : (U main_v19 : Vec F S_ .i32) = word0 p.val) :
    (after hostOps0_4 U main_v28 : Vec F S3 .i32) (ix1 1) = BitVec.ofNat 32 (ringAt p).val := by
  obtain ⟨j, hj⟩ := cat1 (after hostOps0_4 U main_v25 : Vec F S1 .i32) (after hostOps0_4 U main_v26) (after hostOps0_4 U main_v27) concatenates_S1_S1_S1_S3_d0
  rw [words_cat, hj]
  clear hj
  after_results_simp_entrywise
  simp only [hc, h]
  exact slice_ring p
theorem own_word (q : Fin 8) (h : (U main_v4 : Vec F S_ .i32) = word0 q.val) :
    (after hostOps0_4 U main_v28 : Vec F S3 .i32) (ix1 2) = BitVec.ofNat 32 q.val := by
  obtain ⟨j, hj⟩ := cat2 (after hostOps0_4 U main_v25 : Vec F S1 .i32) (after hostOps0_4 U main_v26) (after hostOps0_4 U main_v27) concatenates_S1_S1_S1_S3_d0
  rw [words_cat, hj]
  clear hj
  after_results_simp_entrywise
  rw [h]
  rfl
theorem cw_pos : (after hostOps0_4 U main_v31 : Vec F S7 .i32)
    = subi (broadcastInDim S7 ![] bcast_S_S7 (subi (U main_v9 : Vec F S_ .i32) (constantI S_ 32 1#32))) (U main_v10 : Vec F S7 .i32) := by
  after_results_simp_entrywise
theorem cw_eight : (after hostOps0_4 U main_c_14 : Vec F S_ .i32) = word0 8 := by
  after_results_simp_entrywise
  rfl
theorem cw_dev (hc : (U main_c : Vec F S8 .i32) = fun i => lit0 (S8.rowMajor i)) (s : Fin 7) (p : Fin 8)
    (h : (U main_v32 : Vec F S7 .i32) (Shape.Idx.ofFin s) = BitVec.ofNat 32 p.val) :
    (after hostOps0_6 U main_v39 : Vec F S7 .i32) (Shape.Idx.ofFin s) = BitVec.ofNat 32 (ringAt p).val := by
  have e : (after hostOps0_6 U main_v39 : Vec F S7 .i32) = Host.gather gather_S8_S7x1_S7_n_0_n_n_0_1_1 (U main_c : Vec F S8 .i32)
      (broadcastInDim S7x1 ![0] bcast_S7_S7x1_0 (select (cmpi .slt (U main_v32 : Vec F S7 .i32) (broadcastInDim S7 ![] bcast_S_S7 (constantI S_ 32 0#32)))
        (addi (U main_v32 : Vec F S7 .i32) (broadcastInDim S7 ![] bcast_S_S7 (constantI S_ 32 8#32))) (U main_v32 : Vec F S7 .i32))) := by
    after_results_simp_entrywise
  rw [e, hc]
  refine (StableHlo.Predicate.gather_take _ rfl rfl rfl rfl _ _ s (by decide)).trans ?_
  rw [← pick_ring p, ← h]
  exact pick_at _ _ _ ((row_col _ s).trans rfl)
theorem ccw_pos : (after hostOps0_6 U main_v42 : Vec F S7 .i32)
    = addi (broadcastInDim S7 ![] bcast_S_S7 (addi (U main_v9 : Vec F S_ .i32) (constantI S_ 32 1#32))) (U main_v10 : Vec F S7 .i32) := by
  after_results_simp_entrywise
theorem ccw_eight : (after hostOps0_6 U main_c_18 : Vec F S_ .i32) = word0 8 := by
  after_results_simp_entrywise
  rfl
theorem ccw_dev (hc : (U main_c : Vec F S8 .i32) = fun i => lit0 (S8.rowMajor i)) (s : Fin 7) (p : Fin 8)
    (h : (U main_v43 : Vec F S7 .i32) (Shape.Idx.ofFin s) = BitVec.ofNat 32 p.val) :
    (after hostOps0_8 U main_v50 : Vec F S7 .i32) (Shape.Idx.ofFin s) = BitVec.ofNat 32 (ringAt p).val := by
  have e : (after hostOps0_8 U main_v50 : Vec F S7 .i32) = Host.gather gather_S8_S7x1_S7_n_0_n_n_0_1_1 (U main_c : Vec F S8 .i32)
      (broadcastInDim S7x1 ![0] bcast_S7_S7x1_0 (select (cmpi .slt (U main_v43 : Vec F S7 .i32) (broadcastInDim S7 ![] bcast_S_S7 (constantI S_ 32 0#32)))
        (addi (U main_v43 : Vec F S7 .i32) (broadcastInDim S7 ![] bcast_S_S7 (constantI S_ 32 8#32))) (U main_v43 : Vec F S7 .i32))) := by
    after_results_simp_entrywise
  rw [e, hc]
  refine (StableHlo.Predicate.gather_take _ rfl rfl rfl rfl _ _ s (by decide)).trans ?_
  rw [← pick_ring p, ← h]
  exact pick_at _ _ _ ((row_col _ s).trans rfl)

/-! ## The tables at the launch -/

theorem ring_at (c : Dev nD) (s : Fin 7) (b : Bool) :
    ringAt (posOf (org b (s.val + 1) c)) = org b (s.val + 1) c := ringAt_posOf _

theorem V2_v12 (c : Dev nD) : (V2 m c main_v12 : Vec F S_ .i32) = word0 (posOf c + 1).val := by
  refine (right_rem (V1 m c) (V1_c6 m c)).trans ?_
  rw [V1_v11]
  exact funext fun _ => rem8_right c
theorem V2_c (c : Dev nD) : (V2 m c main_c : Vec F S8 .i32) = fun i => lit0 (S8.rowMajor i) :=
  (V2_of m c main_c (by decide)).trans (V1_c m c)
theorem V3_v17 (c : Dev nD) : (V3 m c main_v17 : Vec F S_ .i32) = word0 (nx true c).val :=
  right_dev (V2 m c) (V2_c m c) _ (V2_v12 m c)
theorem V3_v18 (c : Dev nD) : (V3 m c main_v18 : Vec F S_ .i32) = subi (word0 (F := F) (posOf c).val) (constantI S_ 32 1#32) := by
  refine (left_pos (V2 m c)).trans ?_
  rw [show (V2 m c main_v9 : Vec F S_ .i32) = _ from (V2_of m c main_v9 (by decide)).trans (V1_v9 m c)]
theorem V4_v19 (c : Dev nD) : (V4 m c main_v19 : Vec F S_ .i32) = word0 (posOf c - 1).val := by
  refine (left_rem (V3 m c) (left_eight (V2 m c))).trans ?_
  rw [V3_v18]
  exact funext fun _ => rem8_left c
theorem V4_c (c : Dev nD) : (V4 m c main_c : Vec F S8 .i32) = fun i => lit0 (S8.rowMajor i) :=
  (V4_of m c main_c (by decide)).trans ((V3_of m c main_c (by decide)).trans (V2_c m c))
theorem V4_v17 (c : Dev nD) : (V4 m c main_v17 : Vec F S_ .i32) = word0 (nx true c).val :=
  (V4_of m c main_v17 (by decide)).trans (V3_v17 m c)
theorem V4_v4 (c : Dev nD) : (V4 m c main_v4 : Vec F S_ .i32) = word0 c.val :=
  (V4_of m c main_v4 (by decide)).trans ((V3_of m c main_v4 (by decide)).trans ((V2_of m c main_v4 (by decide)).trans (V1_v4 m c)))
theorem V4_v9 (c : Dev nD) : (V4 m c main_v9 : Vec F S_ .i32) = word0 (posOf c).val :=
  (V4_of m c main_v9 (by decide)).trans ((V3_of m c main_v9 (by decide)).trans ((V2_of m c main_v9 (by decide)).trans (V1_v9 m c)))
theorem V4_v10 (c : Dev nD) : (V4 m c main_v10 : Vec F S7 .i32) = fun i => BitVec.ofNat 32 (i 0).val :=
  (V4_of m c main_v10 (by decide)).trans ((V3_of m c main_v10 (by decide)).trans ((V2_of m c main_v10 (by decide)).trans (V1_v10 m c)))
theorem V5_v31 (c : Dev nD) (s : Fin 7) : (V5 m c main_v31 : Vec F S7 .i32) (Shape.Idx.ofFin s)
    = BitVec.ofNat 32 (posOf c).val - 1#32 - BitVec.ofNat 32 s.val := by
  rw [show (V5 m c main_v31 : Vec F S7 .i32) = _ from cw_pos (V4 m c), V4_v9, V4_v10]
  rfl
theorem V6_v32 (c : Dev nD) (s : Fin 7) : (V6 m c main_v32 : Vec F S7 .i32) (Shape.Idx.ofFin s)
    = BitVec.ofNat 32 (posOf (org true (s.val + 1) c)).val := by
  rw [show (V6 m c main_v32 : Vec F S7 .i32) = _ from cw_rem (V5 m c) (cw_eight (V4 m c))]
  refine (congrArg rem8 (V5_v31 m c s)).trans ?_
  exact rem8_cw c s
theorem V6_c (c : Dev nD) : (V6 m c main_c : Vec F S8 .i32) = fun i => lit0 (S8.rowMajor i) :=
  (V6_of m c main_c (by decide)).trans ((V5_of m c main_c (by decide)).trans (V4_c m c))
theorem V7_v39 (c : Dev nD) (s : Fin 7) : (V7 m c main_v39 : Vec F S7 .i32) (Shape.Idx.ofFin s) = BitVec.ofNat 32 (org true (s.val + 1) c).val :=
  (cw_dev (V6 m c) (V6_c m c) s _ (V6_v32 m c s)).trans (by rw [ring_at])
theorem V6_v9 (c : Dev nD) : (V6 m c main_v9 : Vec F S_ .i32) = word0 (posOf c).val :=
  (V6_of m c main_v9 (by decide)).trans ((V5_of m c main_v9 (by decide)).trans (V4_v9 m c))
theorem V6_v10 (c : Dev nD) : (V6 m c main_v10 : Vec F S7 .i32) = fun i => BitVec.ofNat 32 (i 0).val :=
  (V6_of m c main_v10 (by decide)).trans ((V5_of m c main_v10 (by decide)).trans (V4_v10 m c))
theorem V7_v42 (c : Dev nD) (s : Fin 7) : (V7 m c main_v42 : Vec F S7 .i32) (Shape.Idx.ofFin s)
    = BitVec.ofNat 32 (posOf c).val + 1#32 + BitVec.ofNat 32 s.val := by
  rw [show (V7 m c main_v42 : Vec F S7 .i32) = _ from ccw_pos (V6 m c), V6_v9, V6_v10]
  rfl
theorem V8_v43 (c : Dev nD) (s : Fin 7) : (V8 m c main_v43 : Vec F S7 .i32) (Shape.Idx.ofFin s)
    = BitVec.ofNat 32 (posOf (org false (s.val + 1) c)).val := by
  rw [show (V8 m c main_v43 : Vec F S7 .i32) = _ from ccw_rem (V7 m c) (ccw_eight (V6 m c))]
  refine (congrArg rem8 (V7_v42 m c s)).trans ?_
  exact rem8_ccw c s
theorem V8_c (c : Dev nD) : (V8 m c main_c : Vec F S8 .i32) = fun i => lit0 (S8.rowMajor i) :=
  (V8_of m c main_c (by decide)).trans ((V7_of m c main_c (by decide)).trans (V6_c m c))
theorem V9_v50 (c : Dev nD) (s : Fin 7) : (V9 m c main_v50 : Vec F S7 .i32) (Shape.Idx.ofFin s) = BitVec.ofNat 32 (org false (s.val + 1) c).val :=
  (ccw_dev (V8 m c) (V8_c m c) s _ (V8_v43 m c s)).trans (by rw [ring_at])
theorem V9_v39 (c : Dev nD) : V9 m c main_v39 = V7 m c main_v39 :=
  (V9_of m c main_v39 (by decide)).trans (V8_of m c main_v39 (by decide))
theorem V9_v28 (c : Dev nD) : V9 m c main_v28 = V5 m c main_v28 :=
  (V9_of m c main_v28 (by decide)).trans ((V8_of m c main_v28 (by decide)).trans ((V7_of m c main_v28 (by decide)).trans (V6_of m c main_v28 (by decide))))

theorem ix1_ofFin {n : ℕ} (s : Fin n) : (ix1 s : (⟨1, ![n]⟩ : Shape).Idx) = Shape.Idx.ofFin s := by
  funext a
  fin_cases a
  rfl

/-- The words that the host computes for a device: its two neighbours, itself, and the origin of every chunk. -/
theorem words_host (c : Dev nD) : Words (F := F) c (V9 m c main_v28) (V9 m c main_v39) (V9 m c main_v50) := by
  rw [V9_v28, V9_v39]
  refine ⟨right_word (V4 m c) _ (V4_v17 m c), left_word (V4 m c) _ (V4_c m c) (V4_v19 m c), own_word (V4 m c) _ (V4_v4 m c), fun s => ?_, fun s => ?_⟩
  · rw [ix1_ofFin]; exact V7_v39 m c s
  · rw [ix1_ofFin]; exact V9_v50 m c s

end Cert.KernelIdeal.Run

end
-- ==== Proof.Launch.lean ====
/- The launch: the region's data and its body, over the contents the host leaves. -/
module

public import proofs.«01_k».proof.Proof.Host
public import proofs.«01_k».proof.Proof.Gen.KernelIdeal.Points
public import Idealize.ShloMosaic.Lib.Pipeline.Value

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.StableHlo
open Idealize.ShloMosaic.Pipeline (Dat BodyObligation)

variable (V : Dev nD → Valuation τ sig (Elt F))

/-! ## What the devices start from -/

/-- The rows of `x` on device `d`, the columns of `w` on device `c`, the two scales there. -/
def rows (d : Dev nD) : Vec F S512x4096 .i8 := V d main_arg0
def cols (c : Dev nD) : Vec F S4096x1024 .i8 := V c main_arg1
def scaleX (c : Dev nD) : F .f32 := (V c main_arg2 : Vec F S1 .f32) (ix1 0)
def scaleW (c : Dev nD) : F .f32 := (V c main_arg3 : Vec F S1 .f32) (ix1 0)

/-- The result on device `c`. -/
def result (c : Dev nD) : Vec F S4096x1024 .f32 := target (rows V) (cols V c) (scaleX V c) (scaleW V c) c

/-! ## A window over a whole array -/

section Window

theorem blk_emb {s : Shape} {e : EltTy} {cs : CoreSpace} (arr : Memref sig .tc .hbm s e) (o y : Bool)
    (stage : Memref sig .tc (.core cs) ⟨s.rank, s.size⟩ e) (sem : DmaSem sig) (ha : arr.IsWhole) (hs : stage.IsWhole)
    (t : Fin Pipeline.Grid.none.N) (i : s.Idx) :
    ((Pipeline.Window.whole arr o y stage sem ha hs).rect t).emb i = i := by
  funext a
  apply Fin.ext
  show 0 * s.size a + 1 * (i a).val = (i a).val
  omega

/-- What a fetch of the whole array leaves in the buffer, and what a write-back of the whole takes from it. -/
theorem fetch_whole {s : Shape} {e : EltTy} {cs : CoreSpace} (arr : Memref sig .tc .hbm s e) (o y : Bool)
    (stage : Memref sig .tc (.core cs) ⟨s.rank, s.size⟩ e) (sem : DmaSem sig) (ha : arr.IsWhole) (hs : stage.IsWhole)
    (t : Fin Pipeline.Grid.none.N) (i : Pipeline.Grid.none.Coords) (d : s.Idx → Elt F e) (f : arr.view.ty.Contents (Elt F)) :
    (Pipeline.Window.whole arr o y stage sem ha hs).fill i d
        (((Pipeline.Window.whole arr o y stage sem ha hs).blk t).view.read (Elt F) f)
      = arr.view.read (Elt F) f := by
  funext j
  have hm : (Pipeline.Window.whole arr o y stage sem ha hs).moved i j = true :=
    ((Pipeline.Window.whole arr o y stage sem ha hs).moved_iff _ j).mpr fun a => (j a).isLt
  unfold Pipeline.Window.fill
  rw [dif_pos hm]
  show arr.view.read (Elt F) f (((Pipeline.Window.whole arr o y stage sem ha hs).rect t).emb j) = _
  rw [blk_emb]

theorem read_whole_blk {s : Shape} {e : EltTy} {cs : CoreSpace} (arr : Memref sig .tc .hbm s e) (o y : Bool)
    (stage : Memref sig .tc (.core cs) ⟨s.rank, s.size⟩ e) (sem : DmaSem sig) (ha : arr.IsWhole) (hs : stage.IsWhole)
    (t : Fin Pipeline.Grid.none.N) (f : arr.view.ty.Contents (Elt F)) (j : s.Idx) :
    ((Pipeline.Window.whole arr o y stage sem ha hs).blk t).view.read (Elt F) f j = arr.view.read (Elt F) f j := by
  show arr.view.read (Elt F) f (((Pipeline.Window.whole arr o y stage sem ha hs).rect t).emb j) = _
  rw [blk_emb]

end Window

/-! ## The region's data -/

def scratch (c : Dev nD) : sProp 𝕄 :=
  iprop(bufP (F := F) c true ∗ bufP (F := F) c false ∗ ∃ fb, pt (F := F) c cc0_scratch2 fullShare fb)
theorem rest_scratch (c : Dev nD) :
    (Pipeline.scopedRest (Ix := Unit) (Name := ℕ) (U := UU) (Lvl := ℕ) (Val := Elt F) spec0 c : sProp 𝕄) = scratch c :=
  scopedRest0_eq c

/-- Every array as the host leaves it; after the body the inputs unchanged and the result in place; the protocol open
    before the body and closed after it. -/
def dat0 (c : Dev nD) : Dat τ (Elt F) Unit ℕ UU ℕ cfg0 c where
  A w := V c (Proc.devRef .tc (Pipeline.arrRef spec0 w))
  after w _ := match w with
    | ⟨0, _⟩ => V c main_arg0
    | ⟨1, _⟩ => V c main_arg1
    | ⟨2, _⟩ => V c main_arg2
    | ⟨3, _⟩ => V c main_arg3
    | ⟨4, _⟩ => V c main_v28
    | ⟨5, _⟩ => V c main_v39
    | ⟨6, _⟩ => V c main_v50
    | ⟨7, _⟩ => result V c
  Φ t := if t.val = 0 then iprop(Xk (rows V) c ∗ scratch c ∗ ∃ r, prngReg c r)
    else iprop((semVal (barCell c) 0 ∗ Pipeline.ownSems0 osem c) ∗ scratch c ∗ ∃ r, prngReg c r)
  q _ := fullShare
  owed t := if t.val = 0 then O₀ c else 0

def pdats : (p : Fin 1) → (c : Dev nD) → Dat τ (Elt F) Unit ℕ UU ℕ (Pipeline.pin (pcfgs (F := F)) adm p) c
  | 0 => dat0 V

theorem owed_zero (c : Dev nD) : (dat0 V c).owed 0 = O₀ c := by
  show (if (0 : Fin (cfg0.N + 1)).val = 0 then O₀ c else 0) = O₀ c; exact if_pos rfl
theorem owed_last (c : Dev nD) : (dat0 V c).owed (Fin.last _) = 0 := by
  show (if (Fin.last cfg0.N).val = 0 then O₀ c else 0) = 0
  rw [Fin.val_last, if_neg (by rw [show cfg0.N = 1 from N_0]; decide)]

/-- An input's buffer before the body, from what its fetch brings. -/
theorem before_of {c : Dev nD} {w : Fin cfg0.W} {d} {X} (hf : (cfg0.win w).fetch t0_0 = true) (h : (dat0 V c).fetched w t0_0 d = X) :
    (dat0 V c).before w t0_0 d = X := by
  unfold Dat.before; rw [if_pos hf]; exact h
theorem before_0 (c : Dev nD) (d) : (dat0 V c).before 0 t0_0 d = rows V c :=
  before_of V (fetch0_0 _) (fetch_whole _ _ _ _ _ (Memref.isWhole_whole _) (Memref.isWhole_whole _) _ _ _ _)
theorem before_1 (c : Dev nD) (d) : (dat0 V c).before 1 t0_0 d = cols V c :=
  before_of V (fetch0_1 _) (fetch_whole _ _ _ _ _ (Memref.isWhole_whole _) (Memref.isWhole_whole _) _ _ _ _)
theorem before_2 (c : Dev nD) (d) : (dat0 V c).before 2 t0_0 d = V c main_arg2 :=
  before_of V (fetch0_2 _) (fetch_whole _ _ _ _ _ (Memref.isWhole_whole _) (Memref.isWhole_whole _) _ _ _ _)
theorem before_3 (c : Dev nD) (d) : (dat0 V c).before 3 t0_0 d = V c main_arg3 :=
  before_of V (fetch0_3 _) (fetch_whole _ _ _ _ _ (Memref.isWhole_whole _) (Memref.isWhole_whole _) _ _ _ _)
theorem before_4 (c : Dev nD) (d) : (dat0 V c).before 4 t0_0 d = V c main_v28 :=
  before_of V (fetch0_4 _) (fetch_whole _ _ _ _ _ (Memref.isWhole_whole _) (Memref.isWhole_whole _) _ _ _ _)
theorem before_5 (c : Dev nD) (d) : (dat0 V c).before 5 t0_0 d = V c main_v39 :=
  before_of V (fetch0_5 _) (fetch_whole _ _ _ _ _ (Memref.isWhole_whole _) (Memref.isWhole_whole _) _ _ _ _)
theorem before_6 (c : Dev nD) (d) : (dat0 V c).before 6 t0_0 d = V c main_v50 :=
  before_of V (fetch0_6 _) (fetch_whole _ _ _ _ _ (Memref.isWhole_whole _) (Memref.isWhole_whole _) _ _ _ _)

omit [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- What a device owes, taken out of the pipeline's record of it and put back. -/
theorem owes_take {c : Dev nD} (t : Fin (cfg0.N + 1)) (O : CellTallies nD τ sig Unit) (h : (dat0 V c).owed t = O) :
    ((dat0 V c).owesAt () t : sProp 𝕄) ⊢ iprop(∃ W, owes (c : Thread nD τ) O W) := by
  unfold Dat.owesAt Pipeline.owesWithin; rw [h]
  iintro ⟨%W, -, HO⟩; iexists W; iexact HO
theorem owes_put {c : Dev nD} (t : Fin (cfg0.N + 1)) (O : CellTallies nD τ sig Unit) (h : (dat0 V c).owed t = O) (W : Waits sig Unit) :
    (owes (c : Thread nD τ) O W : sProp 𝕄) ⊢ ((dat0 V c).owesAt () t : sProp 𝕄) := by
  unfold Dat.owesAt Pipeline.owesWithin Dat.bound; rw [h, show (dat0 V c).recorded t = Set.univ from rfl]
  iintro HO; iexists W; isplitr; · ipureintro; exact fun _ _ => Or.inl trivial
  iexact HO

set_option maxRecDepth 65536 in
theorem staged_eq : bodyAt0 (F := F) t0_0
    = allP (F := F) bufX bufX_whole (Memref.whole cc0_stg1_0) (Memref.whole cc0_stg2_0) (Memref.whole cc0_stg3_0)
        (Memref.whole cc0_stg4_0) (Memref.whole cc0_stg5_0) (Memref.whole cc0_stg6_0) outM (bufD true) (bufD_whole true)
        (bufD false) (bufD_whole false) (Memref.whole cc0_scratch2) (Memref.isWhole_whole _) (sndA true) (rcvA true) (sndA false) (rcvA false) :=
  body_eq (F := F) bufX bufX_whole (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) outM (Memref.isWhole_whole _) (bufD true) (bufD_whole true) (bufD false) (bufD_whole false)
    (Memref.whole cc0_scratch2) (Memref.isWhole_whole _) (sndA true) (rcvA true) (sndA false) (rcvA false)

/-- The body from its staging buffers. -/
theorem wp_staged (hT : ∀ c, Words (F := F) c (V c main_v28) (V c main_v39) (V c main_v50)) (K : GSem nD τ sig → ℕ) (c : Dev nD) (W : Waits sig Unit) (Q : PUnit → sProp 𝕄) :
    iprop(invAll (rows V) K ∗ levAts L lv
        ∗ Ins (rows V) (cols V c) c (V c main_v28) (V c main_arg2) (V c main_arg3) (V c main_v39) (V c main_v50)
        ∗ (∃ f, pt (F := F) c cc0_stg7_0 fullShare f) ∗ scratch c ∗ owes (c : Thread nD τ) (O₀ c) W ∗ ToksIn (F := F) c
        ∗ ((Ins (rows V) (cols V c) c (V c main_v28) (V c main_arg2) (V c main_arg3) (V c main_v39) (V c main_v50)
            ∗ pt c cc0_stg7_0 fullShare (result V c) ∗ scratch c ∗ (∃ W, owes (c : Thread nD τ) 0 W)
            ∗ semVal (barCell c) 0 ∗ Pipeline.ownSems0 osem c) -∗ Q ⟨⟩))
      ⊢ wpc c (bodyAt0 (F := F) t0_0) Q := by
  rw [staged_eq]
  refine BIBase.Entails.trans ?_ (wp_fupd (Fr := frame) (wpE := wpE (defs₀ (F := F)) 𝒱₀ (c : Thread nD τ) none) (E := Set.univ) _ Q)
  unfold scratch
  iintro ⟨#HI, #Hlev, Hin, ⟨%f, Hout⟩, ⟨HbT, HbF, Hb⟩, HO, Ht, Hk⟩
  iapply (wp_body (rows V) (cols V c) (scaleX V c) (scaleW V c) K c (V c main_v28) (V c main_v39) (V c main_v50)
    (V c main_arg2) (V c main_arg3) (hT c) rfl rfl W _)
  isplitr; · iexact HI
  isplitr; · iexact Hlev
  isplitl [Hin]; · iexact Hin
  isplitl [Hout]
  · unfold outP
    iexists f
    isplitr; · ipureintro; exact fun _ h => h.elim
    iexact Hout
  isplitl [HbT]; · iexact HbT
  isplitl [HbF]; · iexact HbF
  isplitl [Hb]; · iexact Hb
  isplitl [HO]; · iexact HO
  isplitl [Ht]; · iexact Ht
  iintro ⟨Hin, Hout, HbT, HbF, Hb, HO, Ht⟩
  imod (closes (rows V) K c) $$ [Ht] with ⟨Hs, Hos⟩
  · isplitr; · iexact HI
    iexact Ht
  imodintro
  iapply Hk
  isplitl [Hin]; · iexact Hin
  isplitl [Hout]; · unfold result; iexact Hout
  isplitl [HbT HbF Hb]
  · isplitl [HbT]; · iexact HbT
    isplitl [HbF] <;> iassumption
  isplitl [HO]; · iexact HO
  isplitl [Hs] <;> iassumption

set_option maxRecDepth 4000 in
theorem body_ok (hT : ∀ c, Words (F := F) c (V c main_v28) (V c main_v39) (V c main_v50)) (c : Dev nD) :
    BodyObligation (dat0 V c) (defs₀ (F := F)) 𝒱₀ () Set.univ := fun t => by
  obtain rfl := fin_N0 t
  rw [bigSep_W0, bigSep_W0]
  simp only [owns_buf]
  rw [show (dat0 V c).Φ t0_0.castSucc = iprop(Xk (rows V) c ∗ scratch c ∗ ∃ r, prngReg c r) from rfl,
    show (dat0 V c).Φ t0_0.succ = iprop((semVal (barCell c) 0 ∗ Pipeline.ownSems0 osem c) ∗ scratch c ∗ ∃ r, prngReg c r) from rfl]
  unfold Xk
  iintro ⟨⟨⟨⟨%K, #HI, Ht⟩, #Hlev⟩, Hs, Hp⟩, HO, ⟨%d0, %f0, %h0, H0⟩, ⟨%d1, %f1, %h1, H1⟩, ⟨%d2, %f2, %h2, H2⟩, ⟨%d3, %f3, %h3, H3⟩,
    ⟨%d4, %f4, %h4, H4⟩, ⟨%d5, %f5, %h5, H5⟩, ⟨%d6, %f6, %h6, H6⟩, ⟨%d7, %f7, %h7, H7⟩⟩
  rw [before_0] at h0; rw [before_1] at h1; rw [before_2] at h2; rw [before_3] at h3; rw [before_4] at h4; rw [before_5] at h5
  rw [before_6] at h6
  subst h0 h1 h2 h3 h4 h5 h6
  ihave HO' := (owes_take V t0_0.castSucc (O₀ c) (owed_zero V c)) $$ HO
  icases HO' with ⟨%W, HO⟩
  iapply (wp_staged V hT K c W _)
  isplitr; · iexact HI
  isplitr; · iexact Hlev
  isplitl [H0 H1 H2 H3 H4 H5 H6]
  · unfold Ins
    isplitl [H0]; · iexact H0
    isplitl [H1]; · iexact H1
    isplitl [H2]; · iexact H2
    isplitl [H3]; · iexact H3
    isplitl [H4]; · iexact H4
    isplitl [H5] <;> iassumption
  isplitl [H7]; · iexists f7; iexact H7
  isplitl [Hs]; · iexact Hs
  isplitl [HO]; · iexact HO
  isplitl [Ht]; · iexact Ht
  unfold Ins
  iintro ⟨⟨H0, H1, H2, H3, H4, H5, H6⟩, H7, Hs, ⟨%W', HO⟩, Hb, Hos⟩
  isplitl [Hb Hos Hs Hp]
  · isplitl [Hb Hos]; · isplitl [Hb] <;> iassumption
    isplitl [Hs] <;> iassumption
  isplitl [HO]; · iapply (owes_put V t0_0.succ 0 (owed_last V c) W'); iexact HO
  dsimp only [dat0]
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  isplitl [H5]; · iexists _; isplitr; · ipureintro; rfl
                  iexact H5
  isplitl [H6]; · iexists _; isplitr; · ipureintro; rfl
                  iexact H6
  iexists _; isplitr; · ipureintro; rfl
  iexact H7

/-! ## The arrays after the region -/

/-- What the region leaves: the result in place. -/
def left (c : Dev nD) : Valuation τ sig (Elt F) := Function.update (V c) main_v51 (result V c)

theorem flushed_blk (c : Dev nD) (t : Fin cfg0.N) :
    (dat0 V c).flushed 7 t = ((cfg0.win 7).blk t).view.read (Elt F) (result V c) := by
  funext j
  exact (read_whole_blk (F := F) (Memref.whole main_v51) true false (stage0_7 0) (sem0_7 0) (Memref.isWhole_whole _) (Memref.isWhole_whole _) t
    (result V c) j).symm
theorem blk_covers (i : S4096x1024.Idx) : ∃ t : Fin cfg0.N, (cfg0.win 7).flush t = true ∧ i ∈ ((cfg0.win 7).blk t).view.set := by
  refine ⟨t0_0, flush0_7 _, ?_⟩
  have h := ((cfg0.win 7).blk t0_0).view.emb_mem_set i
  rwa [show ((cfg0.win 7).blk t0_0).view.emb i = i from
    blk_emb (Memref.whole main_v51) true false (stage0_7 0) (sem0_7 0) (Memref.isWhole_whole _) (Memref.isWhole_whole _) t0_0 i] at h
theorem arr_out (c : Dev nD) : (dat0 V c).arrAt 7 cfg0.N = result V c :=
  (dat0 V c).arrAt_eq_of_cover 7 (result V c) (fun t _ => flushed_blk V c t) blk_covers
theorem left_out (c : Dev nD) : left V c main_v51 = result V c := Function.update_self (Proc.devRef (τ := τ) .tc main_v51) _ (V c)
theorem left_ne (c : Dev nD) {r : Ref sig .tc} (h : r ≠ main_v51) : left V c r = V c r :=
  Function.update_of_ne (fun e => h (Proc.devRef_injective _ e)) _ _

/-! ## The region -/

theorem hin0 (c : Dev nD) :
    iprop(Pipeline.scopedRest (Pipeline.pin (pcfgs (F := F)) adm 0).spec c ∗ (∃ r, prngReg c r)
        ∗ held (c.tc : Thread nD τ) ∅ (V c) ∗ Xk (rows V) c) ⊢ (pdats V 0 c).Φ 0 := by
  rw [show (pdats V 0 c).Φ 0 = iprop(Xk (rows V) c ∗ scratch c ∗ ∃ r, prngReg c r) from rfl,
    show (Pipeline.scopedRest (Pipeline.pin (pcfgs (F := F)) adm 0).spec c : sProp 𝕄) = scratch c from rest_scratch c]
  iintro ⟨Hs, Hp, -, HX⟩
  isplitl [HX]; · iexact HX
  isplitl [Hs] <;> iassumption
theorem hout0 (c : Dev nD) :
    (pdats V 0 c).Φ (Fin.last (Pipeline.pin (pcfgs (F := F)) adm 0).N)
      ⊢ iprop(Pipeline.scopedRest (Pipeline.pin (pcfgs (F := F)) adm 0).spec c ∗ (∃ r, prngReg c r)
          ∗ held (c.tc : Thread nD τ) ∅ (left V c) ∗ Pipeline.ownSems0 osem c ∗ semVal (barCell c) 0) := by
  rw [show (pdats V 0 c).Φ (Fin.last _) = iprop((semVal (barCell c) 0 ∗ Pipeline.ownSems0 osem c) ∗ scratch c ∗ ∃ r, prngReg c r) from rfl,
    show (Pipeline.scopedRest (Pipeline.pin (pcfgs (F := F)) adm 0).spec c : sProp 𝕄) = scratch c from rest_scratch c,
    show (held (c.tc : Thread nD τ) ∅ (left V c) : sProp 𝕄) = BI.emp from BI.bigSep_empty]
  iintro ⟨⟨Hb, Hos⟩, Hs, Hp⟩
  isplitl [Hs]; · iexact Hs
  isplitl [Hp]; · iexact Hp
  isplitr; · iempintro
  isplitl [Hos] <;> iassumption

theorem lv_stage (w : Fin 8) (s) : lvS (.dma ((spec0 w).sem s)) = 0 := by
  show (match chanOf ((spec0 w).sem s) with | some (true, p) => 2 + p.2.1.val | _ => 0) = 0
  rw [stage_chan]
theorem O₀_high {c : Dev nD} {g : GSem nD τ sig} {u : Unit} (h : 0 < O₀ c g u) : u ∈ L g ∧ 0 < lv g u := by
  unfold O₀ at h
  rcases add_pos_of h with h | h
  · rcases add_pos_of h with h | h
    · obtain ⟨p, -, rfl⟩ := Ow_pos h
      exact ⟨by rw [L_tc]; exact Finset.mem_singleton_self _, by rw [lv_rcv]; omega⟩
    · obtain rfl := tallyAt_pos h
      exact ⟨by rw [L_tc]; exact Finset.mem_singleton_self _, by rw [lv_bar]; omega⟩
  · obtain rfl := tallyAt_pos h
    exact ⟨by rw [L_tc]; exact Finset.mem_singleton_self _, by rw [lv_bar]; omega⟩
theorem owed_high (c : Dev nD) (t : Fin (cfg0.N + 1)) (g : GSem nD τ sig) (i : Unit) (h : 0 < (dat0 V c).owed t g i) :
    i ∈ L g ∧ 0 < lv g i := by
  rw [show (dat0 V c).owed t = if t.val = 0 then O₀ c else 0 from rfl] at h
  split at h
  · exact O₀_high h
  · exact absurd h (Nat.lt_irrefl 0)

/-- The arrays the windows are on, and the rest of what a device holds. -/
abbrev arrs : Finset (DevRef τ sig) := Pipeline.arrRefs (τ := τ) (pcfgs (F := F) 0).spec
abbrev rests : Finset (DevRef τ sig) := Pipeline.ucRefs τ sig \ arrs (F := F)

theorem left_rest (c : Dev nD) : ∀ b ∈ rests (F := F) \ ∅, left V c b = V c b := fun b hb =>
  Function.update_of_ne (fun e => by
    subst e
    refine (Finset.mem_sdiff.mp (Finset.mem_sdiff.mp hb).1).2 ?_
    exact Finset.mem_map.mpr ⟨main_v51, Finset.mem_image.mpr ⟨(7 : Fin 8), Finset.mem_univ _, rfl⟩, rfl⟩) _ _

theorem arr_in (c : Dev nD) (w : Fin cfg0.W) : (dat0 V c).arrAt w 0 = V c (Proc.devRef .tc (Pipeline.arrRef spec0 w)) := rfl
theorem arr_left (c : Dev nD) (w : Fin cfg0.W) : (dat0 V c).arrAt w cfg0.N = left V c (Proc.devRef .tc (Pipeline.arrRef spec0 w)) := by
  have hi (w : Fin cfg0.W) (ho : (cfg0.win w).isOut = false) (hr : Pipeline.arrRef spec0 w ≠ main_v51) :
      (dat0 V c).arrAt w cfg0.N = left V c (Proc.devRef .tc (Pipeline.arrRef spec0 w)) := by
    rw [(dat0 V c).arrAt_in w ho]; exact (left_ne V c hr).symm
  match w with
  | ⟨0, _⟩ => exact hi 0 rfl (by decide)
  | ⟨1, _⟩ => exact hi 1 rfl (by decide)
  | ⟨2, _⟩ => exact hi 2 rfl (by decide)
  | ⟨3, _⟩ => exact hi 3 rfl (by decide)
  | ⟨4, _⟩ => exact hi 4 rfl (by decide)
  | ⟨5, _⟩ => exact hi 5 rfl (by decide)
  | ⟨6, _⟩ => exact hi 6 rfl (by decide)
  | ⟨7, _⟩ => rw [show (⟨7, _⟩ : Fin cfg0.W) = 7 from rfl, arr_out]; exact (left_out V c).symm

set_option backward.isDefEq.respectTransparency.types false in
def region (hT : ∀ c, Words (F := F) c (V c main_v28) (V c main_v39) (V c main_v50)) :
    Pipeline.RegionSeg (pcfgs (F := F)) adm (pdats V) () defs₀ 𝒱₀ L lv 0 :=
  Pipeline.RegionSeg.ofTalk (pcfgs (F := F)) adm (pdats V) () defs₀ 𝒱₀ L lv 0 osem own_facts
    ∅ (rests (F := F)) (Finset.empty_subset _) launch0.toP rfl (fun c => (body_ok V hT c).loose)
    (fun _ => 0) O₀ (fun c => (owed_zero V c).trans (zero_add _).symm) (owed_last V) (fun _ => rfl)
    (fun c w => by show (dat0 V c).share w = fullShare; unfold Dat.share; split <;> rfl)
    V (left V) (fun c b hb => left_rest V c b hb)
    (Tk (rows V)) (fun c => semVal (barCell c) 0) (Xk (rows V)) (fun c => semVal (barCell c) 0) (opens (rows V)) (hin0 V) (hout0 V)
    (fun c => by iintro H; imodintro; iexact H)
    (fun _ => 0)
    ⟨fun _ w s => by rw [L_tc]; exact Finset.mem_singleton_self _,
     fun _ w s => le_of_eq (lv_stage w s),
     fun c t g i h => owed_high V c t g i h⟩
    (fun _ => iprop(emp))
    (fun c w => arr_in V c w) (fun c w => arr_left V c w)

/-- What rides beside the arrays: into the region, and out of it. -/
def E (xs : Dev nD → Vec F S512x4096 .i8) (k : Fin 2) (c : Dev nD) : sProp 𝕄 := match k with
  | 0 => iprop((∃ r, prngReg c r) ∗ Tk xs c ∗ ∃ W, owes (c : Thread nD τ) (O₀ c) W)
  | 1 => iprop(semVal (barCell c) 0 ∗ ∃ W, owes (c : Thread nD τ) (0 : CellTallies nD τ sig Unit) W)

theorem arrs_sub : arrs (F := F) ⊆ Pipeline.ucRefs τ sig := fun b hb => by
  obtain ⟨r, hr, rfl⟩ := Finset.mem_map.mp hb
  obtain ⟨w, -, rfl⟩ := Finset.mem_image.mp hr
  refine Finset.mem_filter.mpr ⟨devRef_mem_tcRefs _, ?_⟩
  exact (show ∀ w : Fin 8, ¬ (Proc.devRef (τ := τ) .tc (Pipeline.arrRef spec0 w)).isScoped = true by decide) w

theorem region_pre (hT) (c : Dev nD) :
    iprop(held (c : Thread nD τ) (Pipeline.ucRefs τ sig) (V c) ∗ E (rows V) 0 c) ⊢ (region V hT).pre c := by
  show _ ⊢ iprop(held (c.tc : Thread nD τ) (arrs (F := F)) (V c) ∗ (∃ r, prngReg c r)
    ∗ (held (c.tc : Thread nD τ) (rests (F := F)) (V c) ∗ emp) ∗ Tk (rows V) c ∗ ∃ Wd, owes (c : Thread nD τ) (0 + O₀ c) Wd)
  rw [zero_add, held_sub_split (c.tc : Thread nD τ) (arrs_sub (F := F)) (V c)]
  unfold E
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption
theorem region_post (hT) (c : Dev nD) :
    (region V hT).post c ⊢ iprop(held (c : Thread nD τ) (Pipeline.ucRefs τ sig) (left V c) ∗ E (rows V) 1 c) := by
  show iprop(held (c.tc : Thread nD τ) (arrs (F := F)) (left V c) ∗ (∃ r, prngReg c r)
    ∗ (held (c.tc : Thread nD τ) (rests (F := F)) (left V c) ∗ emp) ∗ semVal (barCell c) 0
    ∗ ∃ Wd, owes (c : Thread nD τ) (0 : CellTallies nD τ sig Unit) Wd) ⊢ _
  rw [held_sub_split (c.tc : Thread nD τ) (arrs_sub (F := F)) (left V c)]
  unfold E
  iintro ⟨Ha, -, ⟨Hr, -⟩, Hb, HO⟩
  isplitl [Ha Hr]; · isplitl [Ha] <;> iassumption
  isplitl [Hb] <;> iassumption

end Cert.KernelIdeal.Run

end
-- ==== Proof.Run.lean ====
/- The run of the whole program on the eight devices. -/
module

public import proofs.«01_k».proof.Proof.Launch

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.StableHlo

variable (m : (ℓ : Loc nD τ sig) → Buf (Elt F) ℓ) (ρ : Dev nD → PrngReg)

/-! ## The ghost state from launch -/

def seed : UU :=
  (initOf (Pipeline.cells (Pipeline.pin (pcfgs (F := F)) adm) cellOf_inj) (Pipeline.launchToks (Pipeline.pin (pcfgs (F := F)) adm) cellOf_inj),
    launchOf barCells dmaCells allDuties)

/-- All of a resource on one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  have he : bigSep (Finset.univ.erase c₀) (onDev c₀ X) = (BI.emp : sProp 𝕄) := by
    exact (bigSep_congr (Ψ := fun _ => (BI.emp : sProp 𝕄)) fun c hc => if_neg (Finset.ne_of_mem_erase hc)).trans (BI.bigSep_emp_const _)
  rw [bigSep_univ_at _ c₀, he, show onDev c₀ X c₀ = X from if_pos rfl]
  exact BI.equiv_iff.mp sep_emp

def grant : Dev nD → sProp 𝕄 := onDev 0 (BI.own (ER (launchOf barCells dmaCells allDuties)))

theorem seed_split :
    (ownU (seed (F := F)) : sProp 𝕄)
      ⊢ |={Set.univ}=> iprop(BI.own (EP (initOf (Pipeline.cells (Pipeline.pin (pcfgs (F := F)) adm) cellOf_inj)
          (Pipeline.launchToks (Pipeline.pin (pcfgs (F := F)) adm) cellOf_inj))) ∗ bigSep Finset.univ (grant (F := F))) := by
  unfold seed grant
  iintro Hu
  ihave H := (ownU_pair _ _) $$ Hu
  icases H with ⟨HP, HX⟩
  imodintro
  isplitl [HP]; · iexact HP
  rw [bigSep_onDev]; iexact HX

theorem unscoped_bar (c : Dev nD) : (unscopedSems0 c : sProp 𝕄) = semVal (barCell c) 0 := by
  unfold unscopedSems0
  rw [show (Finset.univ.filter fun sm : SemLoc sig => ¬ sm.isScoped .tc = true) = {SemLoc.reg barS} from by decide +kernel, bigSep_singleton]

variable (V : Dev nD → Valuation τ sig (Elt F))

/-- What of a device's launch holdings is not the protocol's. -/
def plain (c : Dev nD) : sProp 𝕄 :=
  iprop(held (c : Thread nD τ) (Pipeline.ucRefs τ sig) (V0 m c) ∗ (∃ r, prngReg c r) ∗ credits c ∗ owes (c : Thread nD τ) (O₀ c) ∅)
abbrev start (xs : Dev nD → Vec F S512x4096 .i8) (c : Dev nD) : sProp 𝕄 :=
  iprop(held (c : Thread nD τ) (Pipeline.ucRefs τ sig) (V0 m c) ∗ E xs 0 c)

theorem start_intro (xs : Dev nD → Vec F S512x4096 .i8) (K : GSem nD τ sig → ℕ) (c : Dev nD) :
    iprop(records xs K ∗ kept c ∗ plain m c) ⊢ start m xs c := by
  unfold plain start E Tk
  iintro ⟨#HR, Hk, Hh, Hp, Hc, HO⟩
  isplitl [Hh]; · iexact Hh
  isplitl [Hp]; · iexact Hp
  isplitr [HO]
  · isplitl [Hk]
    · iexists K
      isplitr; · iexact HR
      iexact Hk
    iexact Hc
  iexists ∅; iexact HO

theorem sort_out (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ grant (F := F) c)
      ⊢ (iprop(plain m c ∗ semVal (barCell c) 0 ∗ grant c) : sProp 𝕄) := by
  rw [show (unscopedBufs c (fun b => m ((c : Thread nD τ).loc b)) : sProp 𝕄) = held (c : Thread nD τ) (Pipeline.ucRefs τ sig) (V0 m c) from
    Pipeline.unscopedBufs_held (Ix := Unit) (Name := ℕ) (U := UU) (Lvl := ℕ) c (V0 m c), unscoped_bar]
  unfold plain
  iintro ⟨Hh, Hb, HO, Hc, Hp, HG⟩
  ihave Hc := (credits_of c) $$ Hc
  isplitr [Hb HG]
  · isplitl [Hh]; · iexact Hh
    isplitl [Hp]; · iexists (ρ c); iexact Hp
    isplitl [Hc] <;> iassumption
  isplitl [Hb] <;> iassumption

/-- Every cell's invariant made and every token dealt. -/
theorem launch_all (xs : Dev nD → Vec F S512x4096 .i8) :
    iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ grant (F := F) c)) ∗ levAts L lv)
      ⊢ (|={Set.univ}=> bigSep Finset.univ (start m xs) : sProp 𝕄) := by
  have hsort : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ grant (F := F) c))
      ⊢ iprop((bigSep Finset.univ (plain m)) ∗ (bigSep Finset.univ fun c : Dev nD => (semVal (barCell c) 0 : sProp 𝕄))
          ∗ bigSep Finset.univ (grant (F := F))) := by
    rw [← bigSep_sep', ← bigSep_sep']
    exact bigSep_mono fun c _ => sort_out m ρ c
  have hrec (K : GSem nD τ sig → ℕ) : iprop((bigSep (barCells ∪ dmaCells) fun g => cellInv ER (ringRd xs) (K g) g)
      ∗ bigSep barCells fun g => (reached ER g 0 : sProp 𝕄)) ⊢ records xs K := by
    unfold records invAll; exact .rfl
  have hpair : iprop((bigSep Finset.univ (kept (F := F))) ∗ bigSep Finset.univ (plain m))
      ⊢ (bigSep Finset.univ fun c : Dev nD => iprop(kept c ∗ plain m c) : sProp 𝕄) := by
    rw [← bigSep_sep']
  have hkept : iprop((bigSep Finset.univ fun c : Dev nD => (atPos ER (barCell c) 0 ∅ 0 : sProp 𝕄))
        ∗ (bigSep Finset.univ fun c : Dev nD => bigSep Finset.univ fun q => (openTok ER (ownCell c q) : sProp 𝕄))
        ∗ (bigSep Finset.univ fun c : Dev nD => payBars (F := F) c)
        ∗ bigSep Finset.univ fun c : Dev nD => bigSep Finset.univ fun p => payEnds (F := F) c p)
      ⊢ bigSep Finset.univ (kept (F := F)) := by
    rw [← bigSep_sep', ← bigSep_sep', ← bigSep_sep']; exact .rfl
  iintro ⟨H, -⟩
  ihave H := hsort $$ H
  icases H with ⟨HB, Hv, HG⟩
  ihave Hu := (show bigSep Finset.univ (grant (F := F)) ⊢ BI.own (ER (launchOf barCells dmaCells allDuties)) from
    Entails.of_eq (bigSep_onDev (F := F) 0 _)) $$ HG
  imod (Rounds.fund_launch ER (ringRd xs) cells_disjoint (fun g _ h => h) allDuties) $$ [Hv Hu] with ⟨%K, -, #Hinv, #Hr, Hat, Hopen, Htok⟩
  · isplitl [Hv]
    · iapply (Entails.of_eq (bigSep_bars (F := F) fun g => semVal g 0).symm) $$ Hv
    · iexact Hu
  imodintro
  iapply (bigSep_with_persistent (R := records xs K) (Φ := fun c => iprop(kept c ∗ plain m c)) fun c _ => start_intro m xs K c)
  isplitr
  · iapply (hrec K)
    isplitr; · iexact Hinv
    iexact Hr
  iapply hpair
  isplitr [HB]
  · ihave Ht := (duties_dealt (F := F)) $$ Htok
    icases Ht with ⟨Htb, Hte⟩
    iapply hkept
    isplitl [Hat]; · iapply (Entails.of_eq (bigSep_bars (F := F) fun g => atPos ER g 0 ∅ 0)) $$ Hat
    isplitl [Hopen]; · iapply (Entails.of_eq (bigSep_owns (F := F) fun g => openTok ER g)) $$ Hopen
    isplitl [Htb] <;> iassumption
  · iexact HB

/-! ## The run -/

theorem unscoped_only : ∀ sm : SemLoc sig, sm.isScoped .tc = false → sm = .reg barS := by decide +kernel

abbrev filler : Outs (F := F) := fun _ r c => m ((c : Thread nD τ).loc r)
theorem kept_at (c : Dev nD) {r : Ref sig .tc} (h : r ≠ main_v51) (h' : V10 m (filler m) c r = m ((c : Thread nD τ).loc r)) :
    left (V9 m) c r = m ((c : Thread nD τ).loc r) :=
  ((left_ne (V9 m) c h).trans (V10_of m (filler m) c r (by simpa using h)).symm).trans h'

set_option backward.isDefEq.respectTransparency.types false in
/-- From any memory with its counters at zero, every execution of @main on the eight devices ends with the arguments
    as they were, the result in place on every device, and every counter at zero. -/
theorem run_main : θ_run defs (onTc (τ := τ) (main (F := F))) ⟨m, fun _ => 0, ρ⟩
    (fun r => (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.mem ((c.tc : Thread nD τ).loc main_v51) = result (V9 m) c) ∧ r.2.sem = fun _ => 0) := by
  refine Pipeline.θ_run_regions_kit_dev_sems (pcfgs (F := F)) adm (pdats (V9 m)) () cellOf_inj EP defs₀ 𝒱₀ L lv m ρ main
    (segs m 𝒱₀ L lv (E (rows (V9 m))) () (pdats (V9 m)) (region (V9 m) (words_host m)))
    (fun c Q => by
      rewrite [main_chain c, Pipeline.Seg.run_eq_chain,
        show (segs m 𝒱₀ L lv (E (rows (V9 m))) () (pdats (V9 m)) (region (V9 m) (words_host m)) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne (grant (F := F)) (seed (F := F)) seed_split
    (T₀ := start m (rows (V9 m)))
    (Tₙ := fun c => iprop(held (c : Thread nD τ) (Pipeline.ucRefs τ sig) (left (V9 m) c) ∗ semVal (barCell c) 0))
    (hch := fun c => ⟨.rfl, .rfl, .rfl, .rfl, .rfl, .rfl, .rfl, .rfl, .rfl, region_pre (V9 m) (words_host m) c,
      (region_post (V9 m) (words_host m) c).trans (by
        unfold E
        iintro ⟨Hh, Hb, HO⟩
        isplitr [HO]; · isplitl [Hh] <;> iassumption
        iexact HO)⟩)
    (hinit := launch_all m ρ (rows (V9 m)))
    (QY := fun c s => (∀ r : Ref sig .tc, Proc.devRef .tc r ∈ Pipeline.ucRefs τ sig → s.mem ((c.tc : Thread nD τ).loc r) = left (V9 m) c r) ∧ s.sem (barCell c) = 0)
    (hfin := fun c s' => ?_) (hQ := fun s h hs => ⟨fun c => ⟨⟨?_, ?_, ?_, ?_⟩, ?_⟩, ?_⟩)
  · unfold held
    iintro ⟨⟨Hh, Hb⟩, HSI⟩
    icombine HSI Hb gives %hb
    ihave Hr := (pointsTo_read_all (Pipeline.ucRefs τ sig) (fun b => ((c : Thread nD τ).1, b)) (left (V9 m) c) s') $$ [Hh HSI]
    · isplitl [Hh] <;> iassumption
    icases Hr with ⟨%h, HSI⟩
    imodintro
    isplitr
    · ipureintro
      exact ⟨fun r hr => h (Proc.devRef .tc r) hr, by simpa using hb⟩
    · iexact HSI
  · exact ((h c).1 main_arg0 (Finset.mem_filter.mpr ⟨devRef_mem_tcRefs _, by decide⟩)).trans (kept_at m c (by decide) (V10_main_arg0 m (filler m) c))
  · exact ((h c).1 main_arg1 (Finset.mem_filter.mpr ⟨devRef_mem_tcRefs _, by decide⟩)).trans (kept_at m c (by decide) (V10_main_arg1 m (filler m) c))
  · exact ((h c).1 main_arg2 (Finset.mem_filter.mpr ⟨devRef_mem_tcRefs _, by decide⟩)).trans (kept_at m c (by decide) (V10_main_arg2 m (filler m) c))
  · exact ((h c).1 main_arg3 (Finset.mem_filter.mpr ⟨devRef_mem_tcRefs _, by decide⟩)).trans (kept_at m c (by decide) (V10_main_arg3 m (filler m) c))
  · exact ((h c).1 main_v51 (Finset.mem_filter.mpr ⟨devRef_mem_tcRefs _, by decide⟩)).trans (left_out (V9 m) c)
  · exact sem_eq_zero hs fun c sm hsm => by
      obtain rfl := unscoped_only sm hsm
      exact (h c).2

end Cert.KernelIdeal.Run

end
-- ==== Proof.Same.lean ====
/- The kernel's program and its reading over the extended reals are one text, so a run of the one is a run of the other. -/
module

public import proofs.«01_k».proof.Defs
public import proofs.«01_k».proof.Proof.Gen.Kernel
public import proofs.«01_k».proof.Proof.Run
public import Idealize.ShloMosaic.Lib.Tactic

@[expose] public section

noncomputable section

namespace Cert.Proof

open Idealize.ShloMosaic Idealize.ShloMosaic.TcCoe Idealize.SL.Sem

/-- What the frame of the kernel says, spelt in the names of its reading over the extended reals. -/
def FrameThere : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frame_there : FrameThere := fun m ρ _ =>
  (θ_run Cert.KernelIdeal.defs _ _).mono (fun _ h => ⟨fun c => (h.1 c).1, h.2⟩)
    (Cert.KernelIdeal.Run.run_main (F := Bits) m ρ)

theorem frames_same : FrameThere = Cert.quiescent_Kernel := by sl_kernel_rfl

theorem frame_kernel : Cert.quiescent_Kernel := frames_same ▸ frame_there

end Cert.Proof

end
-- ==== Proof.Value.lean ====
/- The value of the result at the extended reals: every element is the sigmoid-weighted unit of one scaled product of a row of the activations with a column of the weights, on the devices and in the reference alike. -/
module

public import proofs.«01_k».proof.Proof.Same
public import proofs.«01_k».proof.Proof.Gen.ReferenceIdeal.Read
public import Idealize.ShloMosaic.Lib.IdealHost

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Cert.ReferenceIdeal.Read

/-- The sigmoid-weighted unit, as the reference writes it: the denominator is at least one, so the quotient is a product with the inverse. -/
theorem silu_eq (y : EReal) : y * Ideal.logistic y = Ideal.div y (1 + Ideal.exp (-y)) := by
  have hn : (0 : EReal) ≤ Ideal.exp (-y) := by
    induction (-y) with
    | bot => exact le_refl _
    | top => exact le_top
    | coe r => exact EReal.coe_nonneg.mpr (Real.exp_pos r).le
  have h : 1 + Ideal.exp (-y) ≠ 0 := by
    intro h0
    have h1 : (1 : EReal) ≤ 1 + Ideal.exp (-y) := le_add_of_nonneg_right hn
    rw [h0] at h1
    exact absurd h1 (by norm_num)
  unfold Ideal.logistic Ideal.div
  rw [if_neg h, if_neg h, one_mul]

theorem sext_toInt (b : BitVec 8) : (b.signExtend 32).toInt = b.toInt := BitVec.toInt_signExtend_of_le (by decide)

/-- One element of the result, from the row of the activations, the column of the weights and the scales. -/
def cell (r : Fin 4096 → BitVec 8) (q : Fin 4096 → BitVec 8) (a b : EReal) : EReal :=
  let y := (∑ k : Fin 4096, (((r k).toInt : ℝ) : EReal) * (((q k).toInt : ℝ) : EReal)) * (a * b)
  y * Ideal.logistic y

def at2 {n p : ℕ} (i : Fin n) (k : Fin p) : (⟨2, ![n, p]⟩ : Shape).Idx
  | 0 => i
  | 1 => k

theorem quot_eq (y : EReal) :
    FloatOps.hostDivf (F := Ideal) (φ := .f32) y (FloatOps.addf (FloatOps.ofBits .f32 0x3F800000#32)
      (FloatOps.hostUnary .exp (FloatOps.hostNegf y))) = y * Ideal.logistic y := by
  show Ideal.div y (Ideal.ofBits .f32 0x3F800000#32 + Ideal.exp (-y)) = _
  rw [Ideal.ofBits_one_f32]
  exact (silu_eq y).symm

/-- A number of 32 bits that came from one of eight, as an extended real. -/
theorem conv_eq (b : BitVec 8) : FloatOps.sitofp (F := Ideal) .f32 (b.signExtend 32) = ((b.toInt : ℝ) : EReal) := by
  show (((b.signExtend 32).toInt : ℝ) : EReal) = _
  rw [sext_toInt]

theorem ref_cell (x : Vec Ideal ReferenceIdeal.S4096x4096 .i8) (w : Vec Ideal ReferenceIdeal.S4096x8192 .i8)
    (a b : Vec Ideal ReferenceIdeal.S1 .f32) (i : ReferenceIdeal.S4096x8192.Idx) :
    val_main_v13 (F := Ideal) x w a b i
      = cell (fun k => x (lidx_main_v4 i k)) (fun k => w (ridx_main_v4 i k)) (a (ix1 0)) (b (ix1 0)) := by
  have e6 : idx_main_v6 (idx_main_v7 i) = ix1 0 := by
    funext a; fin_cases a; rfl
  have es : (∑ k : Fin 4096, val_main_v1 (F := Ideal) x (lidx_main_v4 i k) * val_main_v3 (F := Ideal) w (ridx_main_v4 i k) : EReal)
      = ∑ k : Fin 4096, (((x (lidx_main_v4 i k)).toInt : ℝ) : EReal) * (((w (ridx_main_v4 i k)).toInt : ℝ) : EReal) :=
    Finset.sum_congr rfl fun k _ => by
      rw [val_main_v1_apply, val_main_v3_apply, val_main_v0_apply, val_main_v2_apply, conv_eq, conv_eq]
  have e8 := val_main_v8_apply x w a b i
  rw [val_main_v4_apply, val_main_v7_apply, val_main_v6_apply, val_main_v5_apply, e6, es, Ideal.mulf_def, Ideal.mulf_def] at e8
  rw [val_main_v13_apply, val_main_v12_apply, val_main_v11_apply, val_main_v10_apply, val_main_v9_apply, val_main_cst_apply,
    quot_eq, e8, cell]

/-- The kernel's block of products at one place, over the extended reals. -/
theorem gemm_cell {n : ℕ} (d : DotDims ⟨2, ![n, 4096]⟩ ⟨2, ![4096, 1024]⟩ ⟨2, ![n, 1024]⟩) (hr : d.contr.rank = 1)
    (hs : d.contr.size ⟨0, by omega⟩ = 4096)
    (hd : ∀ j q, (d.lhsIdx j q 0).val = (j 0).val ∧ (d.lhsIdx j q 1).val = (q ⟨0, by omega⟩).val
      ∧ (d.rhsIdx j q 0).val = (q ⟨0, by omega⟩).val ∧ (d.rhsIdx j q 1).val = (j 1).val)
    (A : Vec Ideal ⟨2, ![n, 4096]⟩ .i8) (B : Vec Ideal ⟨2, ![4096, 1024]⟩ .i8) (a b : EReal) (j : (⟨2, ![n, 1024]⟩ : Shape).Idx)
    (Y : FVec Ideal ⟨2, ![n, 1024]⟩ .f32)
    (hY : Y = mulf (matmul d none (sitofp (F := Ideal) .bf16 A) (sitofp .bf16 B) (constant _ .f32 0x00000000#32))
      (broadcast _ (Scalar.mulf (F := Ideal) (φ := .f32) a b))) :
    (mulf Y (logistic Y)) j = cell (fun k => A (at2 (j 0) k)) (fun k => B (at2 k (j 1))) a b := by
  have es : (matmul d none (sitofp (F := Ideal) .bf16 A) (sitofp .bf16 B) (constant _ .f32 0x00000000#32) j : EReal)
      = ∑ k : Fin 4096, (((A (at2 (j 0) k)).toInt : ℝ) : EReal) * (((B (at2 k (j 1))).toInt : ℝ) : EReal) := by
    simp only [matmul]
    rw [Ideal.matmul_constant_zero_apply, ← Equiv.sum_comp (ValueIdx.contrEquiv1 d 4096 hr hs).symm]
    refine Finset.sum_congr rfl fun k _ => ?_
    have hk := ValueIdx.contrEquiv1_symm_val d 4096 hr hs k
    obtain ⟨h1, h2, h3, h4⟩ := hd j ((ValueIdx.contrEquiv1 d 4096 hr hs).symm k)
    have el : d.lhsIdx j ((ValueIdx.contrEquiv1 d 4096 hr hs).symm k) = at2 (j 0) k := Shape.idx_ext₂ h1 (h2.trans hk)
    have er : d.rhsIdx j ((ValueIdx.contrEquiv1 d 4096 hr hs).symm k) = at2 k (j 1) := Shape.idx_ext₂ (h3.trans hk) h4
    rw [el, er]; rfl
  have ey : Y j = (∑ k : Fin 4096, (((A (at2 (j 0) k)).toInt : ℝ) : EReal) * (((B (at2 k (j 1))).toInt : ℝ) : EReal)) * (a * b) := by
    subst hY
    exact congrArg (· * (a * b)) es
  unfold cell
  exact (show (mulf Y (logistic Y)) j = Y j * Ideal.logistic (Y j) from rfl).trans (by rw [ey])

theorem pay1_eq (w : Vec Ideal S4096x1024 .i8) : k0_pay1 w = sitofp .bf16 w := by
  unfold k0_pay1
  simp only [shapeCast_self]

theorem pay3_cell (a b : EReal) (x : Vec Ideal S512x4096 .i8) (w : Vec Ideal S4096x1024 .i8) (j : S512x1024.Idx) :
    k0_pay3 (F := Ideal) a b x (k0_pay1 w) j = cell (fun k => x (at2 (j 0) k)) (fun k => w (at2 k (j 1))) a b := by
  rw [pay1_eq]
  unfold k0_pay3
  simp only [shapeCast_self]
  exact gemm_cell dot_S512x4096_S4096x1024_S512x1024_1_0_0_1_n_n rfl rfl (fun _ _ => ⟨rfl, rfl, rfl, rfl⟩) x w a b j _ rfl

/-- A slot's rows, numbered along the direction's half. -/
theorem slot_row (g : Vec Ideal S1x2x128x4096 .i8) (h h') (r : Fin 256) (k : Fin 4096) (i : S1x2x128x4096.Idx)
    (h1 : (i 1).val = r.val / 128) (h2 : (i 2).val = r.val % 128) (h3 : i 3 = k) :
    shapeCast S256x4096 (shapeCast S2x128x4096 g h) h' (at2 r k) = g i := by
  have h0 : (i 0).val < 1 := (i 0).isLt
  have ha : r.val / 128 < 2 := by omega
  let z : S2x128x4096.Idx := fun a => match a with
    | 0 => i 1
    | 1 => i 2
    | 2 => i 3
  refine (shapeCast_apply _ h' (at2 r k) z ?_).trans (shapeCast_apply g h z i ?_)
  swap
  · rw [Shape.rowMajor_val_four, Shape.rowMajor_val_three]
    show (((i 0).val * 2 + (i 1).val) * 128 + (i 2).val) * 4096 + (i 3).val = ((i 1).val * 128 + (i 2).val) * 4096 + (i 3).val
    omega
  · rw [Shape.rowMajor_val_three, Shape.rowMajor_val_two]
    show ((i 1).val * 128 + (i 2).val) * 4096 + (i 3).val = r.val * 4096 + k.val
    rw [h3, h1, h2]; omega

theorem payB_cell (b : Bool) (sx sw : EReal) (g : Vec Ideal S1x2x128x4096 .i8) (w : Vec Ideal S4096x1024 .i8) (j : S256x1024.Idx)
    (R : Fin 4096 → BitVec 8) (h h') (hR : ∀ k, shapeCast S256x4096 (shapeCast S2x128x4096 g h) h' (at2 (j 0) k) = R k) :
    payB (F := Ideal) b (k0_pay2 sx sw) g (k0_pay1 w) j = cell R (fun k => w (at2 k (j 1))) sx sw := by
  have e := gemm_cell dot_S256x4096_S4096x1024_S256x1024_1_0_0_1_n_n rfl rfl (fun _ _ => ⟨rfl, rfl, rfl, rfl⟩)
    (shapeCast S256x4096 (shapeCast S2x128x4096 g h) h') w sx sw j _ rfl
  rw [pay1_eq, show R = _ from funext fun k => (hR k).symm]
  cases b
  · exact e
  · exact e

/-- The result on a device: row by row of all devices' activations, column by column of its own weights. -/
theorem target_cell (xs : Dev nD → Vec Ideal S512x4096 .i8) (w : Vec Ideal S4096x1024 .i8) (sx sw : EReal) (c : Dev nD)
    (i : S4096x1024.Idx) :
    target (F := Ideal) xs w sx sw c i
      = cell (fun k => xs (blkOf i).1 (at2 (ix512 i 0) k)) (fun k => w (at2 k (i 1))) sx sw := by
  unfold target
  by_cases hc : (blkOf i).1 = c
  · rw [if_pos hc, hc]
    exact pay3_cell sx sw (xs c) w (ix512 i)
  · rw [if_neg hc]
    refine payB_cell _ sx sw _ w (ix256 i) _ Gen.shapeCasts_S1x2x128x4096_S2x128x4096 Gen.shapeCasts_S2x128x4096_S256x4096 fun k => ?_
    have hr : (i 0).val % 256 < 256 := Nat.mod_lt _ (by decide)
    let y : S1x2x128x4096.Idx := fun a => match a with
      | 0 => (0 : Fin 1)
      | 1 => (⟨(i 0).val % 256 / 128, by omega⟩ : Fin 2)
      | 2 => (⟨(i 0).val % 256 % 128, by omega⟩ : Fin 128)
      | 3 => k
    rw [slot_row _ _ _ (ix256 i 0) k y rfl rfl rfl]
    refine congrArg (xs (blkOf i).1) (Shape.idx_ext₂ ?_ rfl)
    show 128 * (kB (decide ((i 0).val % 512 < 256)) + (i 0).val % 256 / 128) + (i 0).val % 256 % 128 = (i 0).val % 512
    by_cases h : (i 0).val % 512 < 256
    · rw [decide_eq_true h]; show 128 * (0 + _) + _ = _; omega
    · rw [decide_eq_false h]; show 128 * (2 + _) + _ = _; omega

theorem args_kept (m : (ℓ : Loc nD τ sig) → Buf (Elt Ideal) ℓ) (c : Dev nD) :
    V9 m c main_arg0 = m (c.tc.loc main_arg0) ∧ V9 m c main_arg1 = m (c.tc.loc main_arg1)
      ∧ V9 m c main_arg2 = m (c.tc.loc main_arg2) ∧ V9 m c main_arg3 = m (c.tc.loc main_arg3) :=
  ⟨(V10_of m (filler m) c main_arg0 (by decide)).symm.trans (V10_main_arg0 m (filler m) c),
    (V10_of m (filler m) c main_arg1 (by decide)).symm.trans (V10_main_arg1 m (filler m) c),
    (V10_of m (filler m) c main_arg2 (by decide)).symm.trans (V10_main_arg2 m (filler m) c),
    (V10_of m (filler m) c main_arg3 (by decide)).symm.trans (V10_main_arg3 m (filler m) c)⟩

/-- The kernel's result is its block of the reference's. -/
theorem block_eq (V : Dev nD → Valuation τ sig (Elt Ideal)) (x : Vec Ideal ReferenceIdeal.S4096x4096 .i8)
    (w : Vec Ideal ReferenceIdeal.S4096x8192 .i8) (a b : Vec Ideal ReferenceIdeal.S1 .f32)
    (hx : ∀ d, V d main_arg0 = Layout.block ⟨2, ![512, 4096]⟩ ⟨2, ![4096, 4096]⟩ 0 8 d x)
    (hw : ∀ d, V d main_arg1 = Layout.block ⟨2, ![4096, 1024]⟩ ⟨2, ![4096, 8192]⟩ 1 8 d w)
    (ha : ∀ d, V d main_arg2 = a) (hb : ∀ d, V d main_arg3 = b) (c : Dev nD) :
    result V c = Layout.block ⟨2, ![4096, 1024]⟩ ⟨2, ![4096, 8192]⟩ 1 8 c (val_main_v13 (F := Ideal) x w a b) := by
  funext i
  have hT : Layout.Tiles ⟨2, ![4096, 1024]⟩ ⟨2, ![4096, 8192]⟩ 1 8 := by decide
  show _ = val_main_v13 (F := Ideal) x w a b (hT.idx c i)
  rw [ref_cell]
  refine (target_cell (rows V) (cols V c) (scaleX V c) (scaleW V c) c i).trans ?_
  have e1 : (fun k => rows V (blkOf i).1 (at2 (ix512 i 0) k)) = fun k => x (lidx_main_v4 (hT.idx c i) k) := by
    funext k
    show V (blkOf i).1 main_arg0 (at2 (ix512 i 0) k) = _
    rw [hx, Layout.block_apply]
    refine congrArg x (Shape.idx_ext₂ ?_ rfl)
    show (i 0).val / 512 * 512 + (i 0).val % 512 = (i 0).val
    omega
  have e2 : (fun k => cols V c (at2 k (i 1))) = fun k => w (ridx_main_v4 (hT.idx c i) k) := by
    funext k
    show V c main_arg1 (at2 k (i 1)) = _
    rw [hw, Layout.block_apply]
    exact congrArg w (Shape.idx_ext₂ rfl rfl)
  rw [e1, e2, show scaleX V c = a (ix1 0) from congrFun (ha c) _, show scaleW V c = b (ix1 0) from congrFun (hb c) _]

end Cert.KernelIdeal.Run

end
-- ==== Proof.lean ====
/- The claims of the certificate: both readings of the kernel and the reference terminate with their arguments unchanged and every
   counter back at zero; the ideal reading is the kernel's own text; and over the extended reals each of the eight devices ends with
   its block of columns of the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ =>
  (θ_run Cert.KernelIdeal.defs _ _).mono (fun _ h => ⟨fun c => (h.1 c).1, h.2⟩)
    (Cert.KernelIdeal.Run.run_main (F := Ideal) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each device ends with its block of columns of the reference's result. -/
theorem value : Cert.algebraic_KernelIdeal_ReferenceIdeal := by
  intro m ρ m' ρ' _ hag
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).2.trans ?_, (h.1 c).1⟩)
    (Cert.KernelIdeal.Run.run_main (F := Ideal) m ρ)
  exact (Cert.KernelIdeal.Run.block_eq _ _ _ _ _
    (fun d => (Cert.KernelIdeal.Run.args_kept m d).1.trans (hag d).1)
    (fun d => (Cert.KernelIdeal.Run.args_kept m d).2.1.trans (hag d).2.1)
    (fun d => (Cert.KernelIdeal.Run.args_kept m d).2.2.1.trans (hag d).2.2.1)
    (fun d => (Cert.KernelIdeal.Run.args_kept m d).2.2.2.trans (hag d).2.2.2) c)

theorem claim : Cert.Claim := ⟨Cert.Kernel.Gen.facts, Cert.KernelIdeal.Gen.facts, Cert.ReferenceIdeal.Gen.facts,
  frame_kernel, frame_ideal, frame_reference, trivial, value⟩

end Cert.Proof

end
